-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048 : Shape := ⟨2, ![8, 2048]⟩
abbrev S8x2048x14336 : Shape := ⟨3, ![8, 2048, 14336]⟩
abbrev S4096x14336 : Shape := ⟨2, ![4096, 14336]⟩
abbrev S14336 : Shape := ⟨1, ![14336]⟩
abbrev S4096x1792 : Shape := ⟨2, ![4096, 1792]⟩
abbrev S16384x4096 : Shape := ⟨2, ![16384, 4096]⟩
abbrev S16384x14336 : Shape := ⟨2, ![16384, 14336]⟩
abbrev S16384x1 : Shape := ⟨2, ![16384, 1]⟩
abbrev S4096x16384 : Shape := ⟨2, ![4096, 16384]⟩
abbrev S512x1024 : Shape := ⟨2, ![512, 1024]⟩
abbrev S512x1 : Shape := ⟨2, ![512, 1]⟩
abbrev S1024x512 : Shape := ⟨2, ![1024, 512]⟩
abbrev S1024 : Shape := ⟨1, ![1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1x14336 : Shape := ⟨2, ![1, 14336]⟩
abbrev S14x128x32 : Shape := ⟨3, ![14, 128, 32]⟩
abbrev S14x4096x32 : Shape := ⟨3, ![14, 4096, 32]⟩
abbrev S1024x1024 : Shape := ⟨2, ![1024, 1024]⟩
abbrev S1024x128 : Shape := ⟨2, ![1024, 128]⟩
abbrev S1x32x32 : Shape := ⟨3, ![1, 32, 32]⟩
abbrev S1x1024x32 : Shape := ⟨3, ![1, 1024, 32]⟩
abbrev S32x32x1024 : Shape := ⟨3, ![32, 32, 1024]⟩
abbrev S32x1024 : Shape := ⟨2, ![32, 1024]⟩
abbrev S32x32x32 : Shape := ⟨3, ![32, 32, 32]⟩
abbrev S32x32 : Shape := ⟨2, ![32, 32]⟩
abbrev S128x14x32 : Shape := ⟨3, ![128, 14, 32]⟩
abbrev S128x448 : Shape := ⟨2, ![128, 448]⟩
abbrev S4096x14x32 : Shape := ⟨3, ![4096, 14, 32]⟩
abbrev S4096x448 : Shape := ⟨2, ![4096, 448]⟩

abbrev nBuf : Space → Nat
  | .hbm => 77
  | .vmem => 29
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048, .f32⟩
  | .hbm, ⟨2, _⟩ => ⟨S8x2048x14336, .fp8e5m2⟩
  | .hbm, ⟨3, _⟩ => ⟨S8x2048, .f32⟩
  | .hbm, ⟨4, _⟩ => ⟨S4096x14336, .fp8e4m3⟩
  | .hbm, ⟨5, _⟩ => ⟨S14336, .f32⟩
  | .hbm, ⟨6, _⟩ => ⟨S4096x1792, .i8⟩
  | .hbm, ⟨7, _⟩ => ⟨S16384x4096, .fp8e4m3⟩
  | .hbm, ⟨8, _⟩ => ⟨S16384x14336, .fp8e5m2⟩
  | .hbm, ⟨9, _⟩ => ⟨S16384x1, .f32⟩
  | .hbm, ⟨10, _⟩ => ⟨S4096x16384, .bf16⟩
  | .hbm, ⟨11, _⟩ => ⟨S1024, .i32⟩
  | .hbm, ⟨12, _⟩ => ⟨S1x1024, .i32⟩
  | .hbm, ⟨13, _⟩ => ⟨S_, .i32⟩
  | .hbm, ⟨14, _⟩ => ⟨S_, .i32⟩
  | .hbm, ⟨15, _⟩ => ⟨S1x1024, .i32⟩
  | .hbm, ⟨16, _⟩ => ⟨S1x1024, .i32⟩
  | .hbm, ⟨17, _⟩ => ⟨S1x1024, .i32⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S1x1024, .i32⟩
  | .hbm, ⟨22, _⟩ => ⟨S1x1024, .i32⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S1x1024, .i1⟩
  | .hbm, ⟨27, _⟩ => ⟨S_, .i32⟩
  | .hbm, ⟨28, _⟩ => ⟨S1x1024, .i32⟩
  | .hbm, ⟨29, _⟩ => ⟨S1x1024, .i32⟩
  | .hbm, ⟨30, _⟩ => ⟨S1x1024, .i32⟩
  | .hbm, ⟨31, _⟩ => ⟨S128, .i32⟩
  | .hbm, ⟨32, _⟩ => ⟨S128x1, .i32⟩
  | .hbm, ⟨33, _⟩ => ⟨S128x1024, .i32⟩
  | .hbm, ⟨34, _⟩ => ⟨S128x1024, .i32⟩
  | .hbm, ⟨35, _⟩ => ⟨S128x1024, .i1⟩
  | .hbm, ⟨36, _⟩ => ⟨S128x1024, .bf16⟩
  | .hbm, ⟨37, _⟩ => ⟨S1024, .i32⟩
  | .hbm, ⟨38, _⟩ => ⟨S1024x1, .i32⟩
  | .hbm, ⟨39, _⟩ => ⟨S_, .i32⟩
  | .hbm, ⟨40, _⟩ => ⟨S_, .i32⟩
  | .hbm, ⟨41, _⟩ => ⟨S1024x1, .i32⟩
  | .hbm, ⟨42, _⟩ => ⟨S1024x1, .i32⟩
  | .hbm, ⟨43, _⟩ => ⟨S1024x1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S1024x1, .i32⟩
  | .hbm, ⟨48, _⟩ => ⟨S1024x1, .i32⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S1024x1, .i1⟩
  | .hbm, ⟨53, _⟩ => ⟨S_, .i32⟩
  | .hbm, ⟨54, _⟩ => ⟨S1024x1, .i32⟩
  | .hbm, ⟨55, _⟩ => ⟨S1024x1, .i32⟩
  | .hbm, ⟨56, _⟩ => ⟨S1024x1, .i32⟩
  | .hbm, ⟨57, _⟩ => ⟨S32, .i32⟩
  | .hbm, ⟨58, _⟩ => ⟨S1x32, .i32⟩
  | .hbm, ⟨59, _⟩ => ⟨S1024x32, .i32⟩
  | .hbm, ⟨60, _⟩ => ⟨S1024x32, .i32⟩
  | .hbm, ⟨61, _⟩ => ⟨S1024x32, .i1⟩
  | .hbm, ⟨62, _⟩ => ⟨S1024x32, .f32⟩
  | .hbm, ⟨63, _⟩ => ⟨S16384x1, .f32⟩
  | .hbm, ⟨64, _⟩ => ⟨S1x14336, .f32⟩
  | .hbm, ⟨65, _⟩ => ⟨S14x128x32, .f32⟩
  | .hbm, ⟨66, _⟩ => ⟨S14x4096x32, .f32⟩
  | .hbm, ⟨67, _⟩ => ⟨S14x128x32, .f32⟩
  | .hbm, ⟨68, _⟩ => ⟨S14x128x32, .f32⟩
  | .hbm, ⟨69, _⟩ => ⟨S128x14x32, .f32⟩
  | .hbm, ⟨70, _⟩ => ⟨S128x448, .f32⟩
  | .hbm, ⟨71, _⟩ => ⟨S4096x14x32, .f32⟩
  | .hbm, ⟨72, _⟩ => ⟨S4096x448, .f32⟩
  | .hbm, ⟨73, _⟩ => ⟨S128x14x32, .f32⟩
  | .hbm, ⟨74, _⟩ => ⟨S128x448, .f32⟩
  | .hbm, ⟨75, _⟩ => ⟨S128x14x32, .f32⟩
  | .hbm, ⟨76, _⟩ => ⟨S128x448, .f32⟩
  | .local _ .vmem, ⟨0, _⟩ => ⟨S512x1024, .fp8e4m3⟩
  | .local _ .vmem, ⟨1, _⟩ => ⟨S512x1024, .fp8e4m3⟩
  | .local _ .vmem, ⟨2, _⟩ => ⟨S512x1, .f32⟩
  | .local _ .vmem, ⟨3, _⟩ => ⟨S512x1, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .fp8e5m2⟩
  | .local _ .vmem, ⟨9, _⟩ => ⟨S1024x1024, .fp8e5m2⟩
  | .local _ .vmem, ⟨10, _⟩ => ⟨S1024x1, .f32⟩
  | .local _ .vmem, ⟨11, _⟩ => ⟨S1024x1, .f32⟩
  | .local _ .vmem, ⟨12, _⟩ => ⟨S1024x1024, .fp8e4m3⟩
  | .local _ .vmem, ⟨13, _⟩ => ⟨S1024x1024, .fp8e4m3⟩
  | .local _ .vmem, ⟨14, _⟩ => ⟨S1x1024, .f32⟩
  | .local _ .vmem, ⟨15, _⟩ => ⟨S1x1024, .f32⟩
  | .local _ .vmem, ⟨16, _⟩ => ⟨S1024x128, .i8⟩
  | .local _ .vmem, ⟨17, _⟩ => ⟨S1024x128, .i8⟩
  | .local _ .vmem, ⟨18, _⟩ => ⟨S128x1024, .bf16⟩
  | .local _ .vmem, ⟨19, _⟩ => ⟨S1024x32, .f32⟩
  | .local _ .vmem, ⟨20, _⟩ => ⟨S1x32x32, .f32⟩
  | .local _ .vmem, ⟨21, _⟩ => ⟨S1x32x32, .f32⟩
  | .local _ .vmem, ⟨22, _⟩ => ⟨S1x1024x32, .f32⟩
  | .local _ .vmem, ⟨23, _⟩ => ⟨S1x1024x32, .f32⟩
  | .local _ .vmem, ⟨24, _⟩ => ⟨S1x32x32, .f32⟩
  | .local _ .vmem, ⟨25, _⟩ => ⟨S1x32x32, .f32⟩
  | .local _ .vmem, ⟨26, _⟩ => ⟨S1x32x32, .f32⟩
  | .local _ .vmem, ⟨27, _⟩ => ⟨S1x32x32, .f32⟩
  | .local _ .vmem, ⟨28, _⟩ => ⟨S1024x1024, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24_0 : Ref sig .tc := ⟨.hbm, 65, rfl⟩
abbrev main_v24_1 : Ref sig .tc := ⟨.hbm, 66, rfl⟩
abbrev main_v24_2 : Ref sig .tc := ⟨.hbm, 67, rfl⟩
abbrev main_v24_3 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 14, 16], ![false, false, false]⟩

def k1_cond2 (i : grid1.Coords) : BitVec 1 :=
  let arg2 : BitVec 32 := BitVec.ofNat 32 (i 2).val
  let c15_i32 : BitVec 32 := 15#32
  let v19 : BitVec 1 := Scalar.cmpi .eq arg2 c15_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc1_transform_11 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x1024 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x128 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 1 → Memref sig .tc .vmem S128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1024x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x32x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x1024x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]

abbrev stage1_10 : Fin 2 → Memref sig .tc .vmem S1x32x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]

abbrev stage1_11 : Fin 2 → Memref sig .tc .vmem S1x32x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, false]
-- ==== ReferenceIdeal.lean ====
abbrev S8x2048x4096 : Shape := ⟨3, ![8, 2048, 4096]⟩
abbrev S8x2048 : Shape := ⟨2, ![8, 2048]⟩
abbrev S8x2048x14336 : Shape := ⟨3, ![8, 2048, 14336]⟩
abbrev S4096x14336 : Shape := ⟨2, ![4096, 14336]⟩
abbrev S14336 : Shape := ⟨1, ![14336]⟩
abbrev S4096x1792 : Shape := ⟨2, ![4096, 1792]⟩
abbrev S8x2048x1 : Shape := ⟨3, ![8, 2048, 1]⟩
abbrev S4096x1792x1 : Shape := ⟨3, ![4096, 1792, 1]⟩
abbrev S8 : Shape := ⟨1, ![8]⟩
abbrev S1x1x8 : Shape := ⟨3, ![1, 1, 8]⟩
abbrev S4096x1792x8 : Shape := ⟨3, ![4096, 1792, 8]⟩
abbrev S_ : Shape := ⟨0, ![]⟩
abbrev S1x14336 : Shape := ⟨2, ![1, 14336]⟩
abbrev S4096x448x32 : Shape := ⟨3, ![4096, 448, 32]⟩
abbrev S4096x448 : Shape := ⟨2, ![4096, 448]⟩
abbrev S128x32x448x32 : Shape := ⟨4, ![128, 32, 448, 32]⟩
abbrev S128x448 : Shape := ⟨2, ![128, 448]⟩

abbrev nBuf : Space → Nat
  | .hbm => 62
  | .vmem => 8
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048, .f32⟩
  | .hbm, ⟨2, _⟩ => ⟨S8x2048x14336, .fp8e5m2⟩
  | .hbm, ⟨3, _⟩ => ⟨S8x2048, .f32⟩
  | .hbm, ⟨4, _⟩ => ⟨S4096x14336, .fp8e4m3⟩
  | .hbm, ⟨5, _⟩ => ⟨S14336, .f32⟩
  | .hbm, ⟨6, _⟩ => ⟨S4096x1792, .i8⟩
  | .hbm, ⟨7, _⟩ => ⟨S8x2048x4096, .bf16⟩
  | .hbm, ⟨8, _⟩ => ⟨S8x2048x14336, .bf16⟩
  | .hbm, ⟨9, _⟩ => ⟨S4096x14336, .f32⟩
  | .hbm, ⟨10, _⟩ => ⟨S4096x14336, .f32⟩
  | .hbm, ⟨11, _⟩ => ⟨S4096x1792, .i32⟩
  | .hbm, ⟨12, _⟩ => ⟨S4096x1792x1, .i32⟩
  | .hbm, ⟨13, _⟩ => ⟨S8, .i32⟩
  | .hbm, ⟨14, _⟩ => ⟨S1x1x8, .i32⟩
  | .hbm, ⟨15, _⟩ => ⟨S4096x1792x8, .i32⟩
  | .hbm, ⟨16, _⟩ => ⟨S4096x1792x8, .i32⟩
  | .hbm, ⟨17, _⟩ => ⟨S4096x1792x8, .i32⟩
  | .hbm, ⟨18, _⟩ => ⟨S_, .i32⟩
  | .hbm, ⟨19, _⟩ => ⟨S4096x1792x8, .i32⟩
  | .hbm, ⟨20, _⟩ => ⟨S4096x1792x8, .i32⟩
  | .hbm, ⟨21, _⟩ => ⟨S4096x14336, .i32⟩
  | .hbm, ⟨22, _⟩ => ⟨S_, .i32⟩
  | .hbm, ⟨23, _⟩ => ⟨S4096x14336, .i32⟩
  | .hbm, ⟨24, _⟩ => ⟨S4096x14336, .i1⟩
  | .hbm, ⟨25, _⟩ => ⟨S4096x14336, .f32⟩
  | .hbm, ⟨26, _⟩ => ⟨S1x14336, .f32⟩
  | .hbm, ⟨27, _⟩ => ⟨S4096x14336, .f32⟩
  | .hbm, ⟨28, _⟩ => ⟨S4096x14336, .f32⟩
  | .hbm, ⟨29, _⟩ => ⟨S4096x14336, .f32⟩
  | .hbm, ⟨30, _⟩ => ⟨S_, .f32⟩
  | .hbm, ⟨31, _⟩ => ⟨S_, .f32⟩
  | .hbm, ⟨32, _⟩ => ⟨S4096x14336, .f32⟩
  | .hbm, ⟨33, _⟩ => ⟨S4096x14336, .f32⟩
  | .hbm, ⟨34, _⟩ => ⟨S4096x448x32, .f32⟩
  | .hbm, ⟨35, _⟩ => ⟨S_, .f32⟩
  | .hbm, ⟨36, _⟩ => ⟨S4096x448, .f32⟩
  | .hbm, ⟨37, _⟩ => ⟨S128x32x448x32, .i1⟩
  | .hbm, ⟨38, _⟩ => ⟨S128x32x448x32, .f32⟩
  | .hbm, ⟨39, _⟩ => ⟨S128x32x448x32, .f32⟩
  | .hbm, ⟨40, _⟩ => ⟨S_, .f32⟩
  | .hbm, ⟨41, _⟩ => ⟨S128x448, .f32⟩
  | .hbm, ⟨42, _⟩ => ⟨S_, .f32⟩
  | .hbm, ⟨43, _⟩ => ⟨S_, .f32⟩
  | .hbm, ⟨44, _⟩ => ⟨S128x32x448x32, .f32⟩
  | .hbm, ⟨45, _⟩ => ⟨S128x32x448x32, .f32⟩
  | .hbm, ⟨46, _⟩ => ⟨S_, .f32⟩
  | .hbm, ⟨47, _⟩ => ⟨S128x448, .f32⟩
  | .hbm, ⟨48, _⟩ => ⟨S128x448, .f32⟩
  | .hbm, ⟨49, _⟩ => ⟨S_, .f32⟩
  | .hbm, ⟨50, _⟩ => ⟨S128x448, .f32⟩
  | .hbm, ⟨51, _⟩ => ⟨S128x448, .i1⟩
  | .hbm, ⟨52, _⟩ => ⟨S_, .f32⟩
  | .hbm, ⟨53, _⟩ => ⟨S_, .f32⟩
  | .hbm, ⟨54, _⟩ => ⟨S128x448, .f32⟩
  | .hbm, ⟨55, _⟩ => ⟨S128x448, .f32⟩
  | .hbm, ⟨56, _⟩ => ⟨S_, .f32⟩
  | .hbm, ⟨57, _⟩ => ⟨S_, .f32⟩
  | .hbm, ⟨58, _⟩ => ⟨S128x32x448x32, .f32⟩
  | .hbm, ⟨59, _⟩ => ⟨S128x32x448x32, .f32⟩
  | .hbm, ⟨60, _⟩ => ⟨S_, .f32⟩
  | .hbm, ⟨61, _⟩ => ⟨S128x448, .f32⟩
  | .local _ .vmem, ⟨0, _⟩ => ⟨S8x2048x4096, .fp8e4m3⟩
  | .local _ .vmem, ⟨1, _⟩ => ⟨S8x2048, .f32⟩
  | .local _ .vmem, ⟨2, _⟩ => ⟨S8x2048x14336, .fp8e5m2⟩
  | .local _ .vmem, ⟨3, _⟩ => ⟨S8x2048, .f32⟩
  | .local _ .vmem, ⟨4, _⟩ => ⟨S4096x14336, .fp8e4m3⟩
  | .local _ .vmem, ⟨5, _⟩ => ⟨S8x2048x4096, .bf16⟩
  | .local _ .vmem, ⟨6, _⟩ => ⟨S8x2048x14336, .bf16⟩
  | .local _ .vmem, ⟨7, _⟩ => ⟨S4096x14336, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_call2_v0 : Ref sig .tc := ⟨.hbm, 48, rfl⟩
abbrev main_call2_cst : Ref sig .tc := ⟨.hbm, 49, rfl⟩
abbrev main_call2_v1 : Ref sig .tc := ⟨.hbm, 50, rfl⟩
abbrev main_v28 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_v29 : Ref sig .tc := ⟨.hbm, 55, rfl⟩
abbrev main_cst_6 : Ref sig .tc := ⟨.hbm, 56, rfl⟩
abbrev main_call4_v0 : Ref sig .tc := ⟨.hbm, 57, rfl⟩
abbrev main_call4_v1 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x14336 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Prep.lean ====
/-
  The first pallas_call (`prep_x`): one block transposed and scaled per grid point.

  Everything is stated for ANY contents `V` of the device's buffers when the call is entered: what the call's staging
  buffers hold when its body runs, what the body leaves in them, and the body's triple. The body loads the codes' block
  and the scales' block, and stores `k0_pay1` of the two over the whole output block.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array's contents at the call's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- A store over the whole output block covers it. -/
theorem cover0 (p0 : Vec F S1024x512 .bf16) (y : S1024x512.Idx) :
    ∃ pc ∈ ([⟨Rect.unit (s := S1024x512) ![0, 0] S1024x512.size inb_S1024x512_S1024x512_0_0, p0⟩] : List (View.Piece (Elt F) S1024x512 .bf16)), y ∈ pc.1.set :=
  View.cover_of_tiled [⟨Rect.unit (s := S1024x512) ![0, 0] S1024x512.size inb_S1024x512_S1024x512_0_0, p0⟩] S1024x512.size (by rfl) y

/-! ## The body's triple -/

set_option maxHeartbeats 1000000 in
/-- The body on whole staging buffers, the inputs at `x0`, `x1` and the output at anything, ends with the inputs as they
    were and the output at `k0_pay1 x0 x1`. -/
theorem prep_body (c : Dev nD) (E : Set ℕ) (i : grid0.Coords) (arg2 : Memref sig .tc .vmem S512x1024 .fp8e4m3) (harg2 : arg2.IsWhole) (arg3 : Memref sig .tc .vmem S512x1 .f32) (harg3 : arg3.IsWhole) (arg4 : Memref sig .tc .vmem S1024x512 .bf16) (harg4 : arg4.IsWhole)
    (x0 : Vec F S512x1024 .fp8e4m3) (x1 : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0_prep_x i arg2 harg2 arg3 harg3 arg4 harg4) K := by
  simp only [cc0_prep_x_eq_skeleton]; unfold cc0_prep_x_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  simp (disch := decide) only [View.canon_cons_unit_lit', View.readAt_eq_ld, View.ld_unit_lit']

/-! ## The pipeline's proof data -/

/-- The first call's proof data on core `c`: the arrays as found; after the body at point `t` each input's buffer at its
    block and the output's at `k0_pay1` of the two; the scoped buffers it does not stage untouched; nothing owed. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- The call's arrays start as found. -/
theorem A0_eq (c : Dev nD) (w : Fin cfg0.W) : (dat0 V c).A w = V c (Proc.devRef .tc (Pipeline.arrRef spec0 w)) := by
  dsimp only [dat0]

/-- What the body leaves in window 0's staging buffer. -/
theorem after0_0 (c : Dev nD) (t : Fin cfg0.N) : (dat0 V c).after 0 t = iblk0 V c 0 t := by dsimp only [dat0]
/-- What the body leaves in window 1's staging buffer. -/
theorem after0_1 (c : Dev nD) (t : Fin cfg0.N) : (dat0 V c).after 1 t = iblk0 V c 1 t := by dsimp only [dat0]
/-- What the body leaves in window 2's staging buffer. -/
theorem after0_2 (c : Dev nD) (t : Fin cfg0.N) : (dat0 V c).after 2 t = k0_pay1 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- Window 1's staging buffer holds its block. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (prep_body c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body at point `t` is the printed function on that point's staging buffers. -/
theorem defs₀_row0 (t : Fin cfg0.N) :
    defs₀ (F := F) .tc cfg0.body (cfg0.bodyArgs t (cfg0.slots t)) = bodyAt0 t := by
  unfold defs₀; rw [Defs.onTc_tc]

/-- The pipeline library's obligation for the body, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.MainBody.lean ====
/-
  The second pallas_call (`main`): the body's three cases.

  The body keeps a running product in a scratch buffer. At the first of the sixteen steps of an output tile it starts
  from zeros (`main_first`), at the others from what the step before left (`main_next`); at the last it also reads the
  four results of the tile off the finished product (`main_last`).
-/
module

public import proofs.«01_k».proof.Proof.Kernel.Prep

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body zeroes its scratch, -/
abbrev isFirst (i : grid1.Coords) : Prop := (Scalar.cmpi .ne (Scalar.extui (Scalar.cmpi .eq (BitVec.ofNat 32 (i 2).val) 0#32)) 0#32) = 1#1
/-- and the condition under which it writes the tile's results. -/
abbrev isLast (i : grid1.Coords) : Prop := k1_cond2 i = 1#1

/-- The first holds at the points that are multiples of 16, -/
theorem isFirst_iff : ∀ t : Fin cfg1.N, isFirst (grid1.coords t) ↔ t.val % 16 = 0 :=
  (fun t => by
    have ht : t.val < 896 := Nat.lt_of_lt_of_eq t.isLt N_1
    have e2 : (grid1.coords t 2).val = t.val / 1 % 16 := Pipeline.Grid.coords_val t 2 (by decide) rfl
    simp only [isFirst, e2]
    word_cmp
   : ∀ t : Fin grid1.N, isFirst (grid1.coords t) ↔ t.val % 16 = 0)

/-- the second at the points just before them. -/
theorem isLast_iff : ∀ t : Fin cfg1.N, isLast (grid1.coords t) ↔ t.val % 16 = 15 :=
  (fun t => by
    have ht : t.val < 896 := Nat.lt_of_lt_of_eq t.isLt N_1
    have e2 : (grid1.coords t 2).val = t.val / 1 % 16 := Pipeline.Grid.coords_val t 2 (by decide) rfl
    simp only [isLast, k1_cond2, e2]
    word_cmp
   : ∀ t : Fin grid1.N, isLast (grid1.coords t) ↔ t.val % 16 = 15)

/-! ## Whole-buffer stores -/

/-- What a whole-buffer store leaves, read back, whatever was stored before it. -/
theorem read_store_whole {κ : Kind} {sp : Space} {S : Shape} {e : EltTy} (v : View sig κ sp S e) (f : v.ty.Contents (Elt F))
    (off : Fin S.rank → Nat) (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  obtain rfl := View.eq_zero_of_forall h
  refine (View.read_writes_eq_canon _ _ _ (fun y => ⟨_, List.mem_cons_self, ?_⟩)).trans (View.canon_cons_unit_lit' inb w L (fun _ => rfl))
  show y ∈ (Rect.whole S).set
  rw [Rect.set_whole]; exact Finset.mem_univ y

/-! ## The body's triples -/

set_option maxHeartbeats 2000000 in
/-- A tile's first step: whatever the scratch held, it ends holding the product of this step's blocks added to zeros. -/
theorem main_first (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (E : Set ℕ) (K : PUnit → sProp 𝕄)
  (h0 : isFirst i) (h1 : ¬ isLast i) :
    iprop(owns (c : Thread nD τ) arg3 fullShare x0 ∗ owns (c : Thread nD τ) arg4 fullShare x1 ∗ owns (c : Thread nD τ) arg5 fullShare x2
        ∗ (∃ d, owns (c : Thread nD τ) arg15 fullShare d)
        ∗ (iprop(owns (c : Thread nD τ) arg3 fullShare x0 ∗ owns (c : Thread nD τ) arg4 fullShare x1 ∗ owns (c : Thread nD τ) arg5 fullShare x2
            ∗ owns (c : Thread nD τ) arg15 fullShare (k1_pay2 x1 x2 (k1_pay1 (F := F)) x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  unfold owns
  iintro ⟨⟨%f0, %hf0, H0⟩, ⟨%f1, %hf1, H1⟩, ⟨%f2, %hf2, H2⟩, ⟨%d, %fs, -, HS⟩, Hk⟩
  subst hf0 hf1 hf2
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact HS
  ipureintro
  refine (read_store_whole _ _ _ _ _ _ (by decide)).trans ?_
  unfold main_first.sl.v11
  try unfold main_first.sl.HS_1
  simp (disch := decide) only [View.canon_cons_unit_lit', View.readAt_eq_ld, View.ld_unit_lit', View.readCov_unit_lit', View.readCov_cons_unit_lit']

set_option maxHeartbeats 2000000 in
/-- A step that is neither first nor last: the product of this step's blocks is added to what the scratch held. -/
theorem main_next (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (xs : Vec F S1024x1024 .f32) (E : Set ℕ) (K : PUnit → sProp 𝕄)
  (h0 : ¬ isFirst i) (h1 : ¬ isLast i) :
    iprop(owns (c : Thread nD τ) arg3 fullShare x0 ∗ owns (c : Thread nD τ) arg4 fullShare x1 ∗ owns (c : Thread nD τ) arg5 fullShare x2
        ∗ owns (c : Thread nD τ) arg15 fullShare xs
        ∗ (iprop(owns (c : Thread nD τ) arg3 fullShare x0 ∗ owns (c : Thread nD τ) arg4 fullShare x1 ∗ owns (c : Thread nD τ) arg5 fullShare x2
            ∗ owns (c : Thread nD τ) arg15 fullShare (k1_pay2 x1 x2 xs x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact HS
  ipureintro
  refine (read_store_whole _ _ _ _ _ _ (by decide)).trans ?_
  simp (disch := decide) only [View.readAt_eq_ld, View.ld_unit_lit']

set_option maxHeartbeats 4000000 in
/-- A tile's last step: the product is completed, and the four results of the tile are written from it, the weights, the
    mask and the two 0/1 matrices. -/
theorem main_last (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (x3 : Vec F S1024x1024 .fp8e4m3)
  (x4 : Vec F S1x1024 .f32) (x5 : Vec F S1024x128 .i8) (x6 : Vec F S128x1024 .bf16) (x7 : Vec F S1024x32 .f32) (xs : Vec F S1024x1024 .f32)
  (E : Set ℕ) (K : PUnit → sProp 𝕄)
  (h0 : ¬ isFirst i) (h1 : isLast i) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ owns (c : Thread nD τ) arg15 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ owns (c : Thread nD τ) arg11 fullShare (k1_pay6 x5 x6 (k1_pay2 x1 x2 xs x0))
            ∗ owns (c : Thread nD τ) arg12 fullShare (k1_pay5 x5 x6 (k1_pay2 x1 x2 xs x0) x7)
            ∗ owns (c : Thread nD τ) arg13 fullShare (k1_pay9 (k1_pay3 x5 x6) x3 x4)
            ∗ owns (c : Thread nD τ) arg14 fullShare (k1_pay8 (k1_pay3 x5 x6) x3 x4 x7)
            ∗ owns (c : Thread nD τ) arg15 fullShare (k1_pay2 x1 x2 xs x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs, %hfs, HS⟩, Hk⟩
  subst hf0 hf1 hf2 hf3 hf4 hf5 hf6 hf7 hfs
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H9]
  · iexists _; isplitr
    swap; · iexact H9
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H10]
  · iexists _; isplitr
    swap; · iexact H10
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H11]
  · iexists _; isplitr
    swap; · iexact H11
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  iexists _; isplitr
  swap; · iexact HS
  ipureintro
  refine (read_store_whole _ _ _ _ _ _ (by decide)).trans ?_
  simp (disch := decide) only [View.canon_cons_unit_lit', View.readAt_eq_ld, View.ld_unit_lit', View.readCov_unit_lit', View.readCov_cons_unit_lit']

end Cert.Kernel.Hand

end
-- ==== Proof.Kernel.MainData.lean ====
/-
  The second pallas_call (`main`): its proof data and the obligation for its body.

  For any contents `V` of the buffers at the call's entry: the running product after each grid point (`accAt`), what the
  body leaves in each staging buffer, the invariant that carries the scratch buffer from one point to the next, and the
  body's obligation at a generic point, by the three cases of `MainBody`.
-/
module

public import proofs.«01_k».proof.Proof.Kernel.MainBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks and the running product -/

/-- Window `w`'s block at point `t`, read off its array's contents at the call's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The scratch buffer's contents after point `n`: this point's product added to zeros at the first of every sixteen
    points, to the point before's contents at the others. -/
def accAt (c : Dev nD) : (n : ℕ) → n < cfg1.N → Vec F S1024x1024 .f32
  | 0, h => k1_pay2 (iblk1 V c 1 ⟨0, h⟩) (iblk1 V c 2 ⟨0, h⟩) (k1_pay1 (F := F)) (iblk1 V c 0 ⟨0, h⟩)
  | n + 1, h => k1_pay2 (iblk1 V c 1 ⟨n + 1, h⟩) (iblk1 V c 2 ⟨n + 1, h⟩)
      (if (n + 1) % 16 = 0 then k1_pay1 (F := F) else accAt c n (Nat.lt_of_succ_lt h)) (iblk1 V c 0 ⟨n + 1, h⟩)

/-- At the first of sixteen points the running product starts from zeros. -/
theorem accAt_first (c : Dev nD) (t : Fin cfg1.N) (h0 : t.val % 16 = 0) :
    accAt V c t.val t.isLt = k1_pay2 (iblk1 V c 1 t) (iblk1 V c 2 t) (k1_pay1 (F := F)) (iblk1 V c 0 t) := by
  obtain ⟨n, hn⟩ := t
  cases n with
  | zero => rfl
  | succ n => unfold accAt; rw [if_pos h0]

/-- At the others it continues from the point before. -/
theorem accAt_next (c : Dev nD) (t : Fin cfg1.N) (h0 : ¬ t.val % 16 = 0) :
    accAt V c t.val t.isLt = k1_pay2 (iblk1 V c 1 t) (iblk1 V c 2 t) (accAt V c (t.val - 1) (Nat.lt_of_le_of_lt (Nat.sub_le _ _) t.isLt)) (iblk1 V c 0 t) := by
  obtain ⟨n, hn⟩ := t
  cases n with
  | zero => exact absurd (Nat.zero_mod _) h0
  | succ n => rw [accAt]; rw [if_neg h0]; rfl

/-! ## The invariant between points -/

/-- The kernel's scratch buffer. -/
abbrev scr : Memref sig .tc .vmem S1024x1024 .f32 := Memref.whole cc1_scratch0

/-- The first call's six staging buffers, at anything (the second call does not touch them), beside `P`. -/
def besides (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The second call's untouched scoped buffers and its scratch at anything, beside the generator register. -/
theorem PhiA1_eq (c : Dev nD) :
    (Pipeline.ΦA spec1 c : sProp 𝕄) = iprop(besides c iprop(∃ d, owns (c : Thread nD τ) scr fullShare d) ∗ (∃ r, prngReg c r)) := by
  unfold Pipeline.ΦA besides; rw [scopedRest1_eq]; simp only [scr, owns_whole]; try rfl

/-- The invariant before point `n`: at the start the scratch holds anything, afterwards what the point before left. -/
def PhiS (c : Dev nD) : (n : ℕ) → n ≤ cfg1.N → sProp 𝕄
  | 0, _ => Pipeline.ΦA spec1 c
  | n + 1, hn => iprop(besides c (owns (c : Thread nD τ) scr fullShare (accAt V c n hn)) ∗ (∃ r, prngReg c r))

/-- The invariant after point `n`: the scratch holds what that point left. -/
theorem PhiS_succ (c : Dev nD) (n : ℕ) (hn : n < cfg1.N) :
    PhiS V c (n + 1) hn = iprop(besides c (owns (c : Thread nD τ) scr fullShare (accAt V c n hn)) ∗ (∃ r, prngReg c r)) := rfl

/-- The invariant before a point other than the first. -/
theorem PhiS_pos (c : Dev nD) (n : ℕ) (h : n ≤ cfg1.N) (hz : n ≠ 0) :
    PhiS V c n h = iprop(besides c (owns (c : Thread nD τ) scr fullShare (accAt V c (n - 1) (by omega))) ∗ (∃ r, prngReg c r)) := by
  cases n with
  | zero => exact absurd rfl hz
  | succ n => rfl

/-- At any point the invariant holds the scratch at something. -/
theorem PhiS_any (c : Dev nD) (n : ℕ) (h : n ≤ cfg1.N) : PhiS V c n h ⊢ Pipeline.ΦA spec1 c := by
  cases n with
  | zero => exact .rfl
  | succ n =>
    rw [PhiS_succ, PhiA1_eq]; unfold besides
    iintro ⟨⟨A, B, C, D, G, H, HS⟩, Hg⟩
    isplitr [Hg]
    · isplitl [A]; · iexact A
      isplitl [B]; · iexact B
      isplitl [C]; · iexact C
      isplitl [D]; · iexact D
      isplitl [G]; · iexact G
      isplitl [H]; · iexact H
      iexists _; iexact HS
    iexact Hg

/-! ## The pipeline's proof data -/

/-- The second call's proof data on core `c`: the arrays as found; after the body at point `t` each input's buffer at its
    block, each output's at the result read off the running product (written back only at a tile's last step); the
    invariant `PhiS`; nothing owed. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay6 (iblk1 V c 5 t) (iblk1 V c 6 t) (accAt V c t.val t.isLt)
    | ⟨9, _⟩ => k1_pay5 (iblk1 V c 5 t) (iblk1 V c 6 t) (accAt V c t.val t.isLt) (iblk1 V c 7 t)
    | ⟨10, _⟩ => k1_pay9 (k1_pay3 (iblk1 V c 5 t) (iblk1 V c 6 t)) (iblk1 V c 3 t) (iblk1 V c 4 t)
    | ⟨11, _⟩ => k1_pay8 (k1_pay3 (iblk1 V c 5 t) (iblk1 V c 6 t)) (iblk1 V c 3 t) (iblk1 V c 4 t) (iblk1 V c 7 t)
  Φ t := PhiS V c t.val (Nat.le_of_lt_succ t.isLt)
  q _ := fullShare
  owed _ := 0

/-- The call's arrays start as found. -/
theorem A1_eq (c : Dev nD) (w : Fin cfg1.W) : (dat1 V c).A w = V c (Proc.devRef .tc (Pipeline.arrRef spec1 w)) := by
  dsimp only [dat1]

/-- The invariant of the proof data is `PhiS`. -/
theorem Phi1_castSucc (c : Dev nD) (t : Fin cfg1.N) : (dat1 V c).Φ t.castSucc = PhiS V c t.val (Nat.le_of_lt t.isLt) := by
  dsimp only [dat1]; exact Pipeline.Dat.Φ_castSucc (PhiS V c) t

/-- What the body leaves in window 0's staging buffer. -/
theorem after1_0 (c : Dev nD) (t : Fin cfg1.N) : (dat1 V c).after 0 t = iblk1 V c 0 t := by dsimp only [dat1]
/-- What the body leaves in window 1's staging buffer. -/
theorem after1_1 (c : Dev nD) (t : Fin cfg1.N) : (dat1 V c).after 1 t = iblk1 V c 1 t := by dsimp only [dat1]
/-- What the body leaves in window 2's staging buffer. -/
theorem after1_2 (c : Dev nD) (t : Fin cfg1.N) : (dat1 V c).after 2 t = iblk1 V c 2 t := by dsimp only [dat1]
/-- What the body leaves in window 3's staging buffer. -/
theorem after1_3 (c : Dev nD) (t : Fin cfg1.N) : (dat1 V c).after 3 t = iblk1 V c 3 t := by dsimp only [dat1]
/-- What the body leaves in window 4's staging buffer. -/
theorem after1_4 (c : Dev nD) (t : Fin cfg1.N) : (dat1 V c).after 4 t = iblk1 V c 4 t := by dsimp only [dat1]
/-- What the body leaves in window 5's staging buffer. -/
theorem after1_5 (c : Dev nD) (t : Fin cfg1.N) : (dat1 V c).after 5 t = iblk1 V c 5 t := by dsimp only [dat1]
/-- What the body leaves in window 6's staging buffer. -/
theorem after1_6 (c : Dev nD) (t : Fin cfg1.N) : (dat1 V c).after 6 t = iblk1 V c 6 t := by dsimp only [dat1]
/-- What the body leaves in window 7's staging buffer. -/
theorem after1_7 (c : Dev nD) (t : Fin cfg1.N) : (dat1 V c).after 7 t = iblk1 V c 7 t := by dsimp only [dat1]
/-- What the body leaves in window 8's staging buffer. -/
theorem after1_8 (c : Dev nD) (t : Fin cfg1.N) : (dat1 V c).after 8 t = k1_pay6 (iblk1 V c 5 t) (iblk1 V c 6 t) (accAt V c t.val t.isLt) := by dsimp only [dat1]
/-- What the body leaves in window 9's staging buffer. -/
theorem after1_9 (c : Dev nD) (t : Fin cfg1.N) : (dat1 V c).after 9 t = k1_pay5 (iblk1 V c 5 t) (iblk1 V c 6 t) (accAt V c t.val t.isLt) (iblk1 V c 7 t) := by dsimp only [dat1]
/-- What the body leaves in window 10's staging buffer. -/
theorem after1_10 (c : Dev nD) (t : Fin cfg1.N) : (dat1 V c).after 10 t = k1_pay9 (k1_pay3 (iblk1 V c 5 t) (iblk1 V c 6 t)) (iblk1 V c 3 t) (iblk1 V c 4 t) := by dsimp only [dat1]
/-- What the body leaves in window 11's staging buffer. -/
theorem after1_11 (c : Dev nD) (t : Fin cfg1.N) : (dat1 V c).after 11 t = k1_pay8 (k1_pay3 (iblk1 V c 5 t) (iblk1 V c 6 t)) (iblk1 V c 3 t) (iblk1 V c 4 t) (iblk1 V c 7 t) := by dsimp only [dat1]

/-! Each input's staging buffer holds its block at every point, fetched there or not. -/

/-- Window 0's staging buffer holds its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Window 1's staging buffer holds its block. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
/-- Window 2's staging buffer holds its block. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
/-- Window 3's staging buffer holds its block. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
/-- Window 4's staging buffer holds its block. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
/-- Window 5's staging buffer holds its block. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
/-- Window 6's staging buffer holds its block. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
/-- Window 7's staging buffer holds its block. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

/-! ## Where the outputs are idle -/

/-! Output by output, over all the points. -/

/-- Window 8 is idle before a tile's last point. -/
theorem idle1_8 : ∀ t : Fin cfg1.N, ¬ t.val % 16 = 15 → cfg1.idle 8 (grid1.coords t) = true := by decide +kernel
/-- Window 8 is live at a tile's last point. -/
theorem live1_8 : ∀ t : Fin cfg1.N, t.val % 16 = 15 → cfg1.idle 8 (grid1.coords t) = false := by decide +kernel
/-- Window 9 is idle before a tile's last point. -/
theorem idle1_9 : ∀ t : Fin cfg1.N, ¬ t.val % 16 = 15 → cfg1.idle 9 (grid1.coords t) = true := by decide +kernel
/-- Window 9 is live at a tile's last point. -/
theorem live1_9 : ∀ t : Fin cfg1.N, t.val % 16 = 15 → cfg1.idle 9 (grid1.coords t) = false := by decide +kernel
/-- Window 10 is idle before a tile's last point. -/
theorem idle1_10 : ∀ t : Fin cfg1.N, ¬ t.val % 16 = 15 → cfg1.idle 10 (grid1.coords t) = true := by decide +kernel
/-- Window 10 is live at a tile's last point. -/
theorem live1_10 : ∀ t : Fin cfg1.N, t.val % 16 = 15 → cfg1.idle 10 (grid1.coords t) = false := by decide +kernel
/-- Window 11 is idle before a tile's last point. -/
theorem idle1_11 : ∀ t : Fin cfg1.N, ¬ t.val % 16 = 15 → cfg1.idle 11 (grid1.coords t) = true := by decide +kernel
/-- Window 11 is live at a tile's last point. -/
theorem live1_11 : ∀ t : Fin cfg1.N, t.val % 16 = 15 → cfg1.idle 11 (grid1.coords t) = false := by decide +kernel

/-- The four outputs' buffers are idle, and not written back, but at a tile's last step. -/
theorem idle1 (w : Fin cfg1.W) (hw : 8 ≤ w.val) (t : Fin cfg1.N) (h : ¬ t.val % 16 = 15) :
    cfg1.idle w (grid1.coords t) = true ∧ (cfg1.win w).flush t = false := by
  have hc : ¬ isLast (grid1.coords t) := fun hl => h ((isLast_iff t).mp hl)
  obtain ⟨w, hlt⟩ := w
  have hlt' : w < 12 := hlt
  obtain rfl | rfl | rfl | rfl : w = 8 ∨ w = 9 ∨ w = 10 ∨ w = 11 := by dsimp only at hw; omega
  · exact ⟨idle1_8 t h, Bool.eq_false_iff.mpr fun hf => h ((flush1_8 t).mp hf)⟩
  · exact ⟨idle1_9 t h, Bool.eq_false_iff.mpr fun hf => h ((flush1_9 t).mp hf)⟩
  · exact ⟨idle1_10 t h, Bool.eq_false_iff.mpr fun hf => h ((flush1_10 t).mp hf)⟩
  · exact ⟨idle1_11 t h, Bool.eq_false_iff.mpr fun hf => h ((flush1_11 t).mp hf)⟩

end Cert.Kernel.Hand

end
-- ==== Proof.Kernel.MainObligation.lean ====
/-
  The second pallas_call (`main`): the pipeline library's obligation for its body, discharged at a generic grid point by
  the three cases of `MainBody`, and the invariant's two ends.
-/
module

public import proofs.«01_k».proof.Proof.Kernel.MainData

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- A live window's buffer is left at what the proof data says. -/
theorem leaves_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

/-- The inputs' buffers, live at every point, are left at their blocks. -/
theorem leaves_in (c : Dev nD) (t : Fin cfg1.N) :
    bodyPost1 V c t = iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ (dat1 V c).leavesExact 8 t
    ∗ (dat1 V c).leavesExact 9 t
    ∗ (dat1 V c).leavesExact 10 t
    ∗ (dat1 V c).leavesExact 11 t) := by
  unfold bodyPost1
  rw [leaves_live V c 0 t rfl, after1_0, leaves_live V c 1 t rfl, after1_1, leaves_live V c 2 t rfl, after1_2, leaves_live V c 3 t rfl, after1_3, leaves_live V c 4 t rfl, after1_4, leaves_live V c 5 t rfl, after1_5, leaves_live V c 6 t rfl, after1_6, leaves_live V c 7 t rfl, after1_7]

set_option maxHeartbeats 4000000 in
/-- The body at any point takes the one to the other: by the point's place in its run of sixteen. -/
theorem sound_body1 (c : Dev nD) (t : Fin cfg1.N) :
    bodyPre1 V c t ⊢ wp frame (wpE (defs₀ (F := F)) Variants.none c none) Set.univ (bodyAt1 t) (fun _ => bodyPost1 V c t) := by
  rw [leaves_in]
  unfold bodyPre1 bodyAt1
  simp only [before1_0, before1_1, before1_2, before1_3, before1_4, before1_5, before1_6, before1_7]
  rw [show (dat1 V c).owesAt () t.succ = (dat1 V c).owesAt () t.castSucc from rfl,
    show (dat1 V c).Φ t.succ = PhiS V c (t.val + 1) t.isLt from rfl, PhiS_succ, Phi1_castSucc]
  by_cases h1 : t.val % 16 = 15
  · have h0 : ¬ t.val % 16 = 0 := by omega
    rw [leaves_live V c 8 t (live1_8 t h1), after1_8, leaves_live V c 9 t (live1_9 t h1), after1_9, leaves_live V c 10 t (live1_10 t h1), after1_10, leaves_live V c 11 t (live1_11 t h1), after1_11]
    rw [PhiS_pos V c _ _ (fun hz => h0 (by rw [hz])), accAt_next V c t h0]
    unfold besides
    iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (main_last c (grid1.coords t) _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) _ Set.univ _
      (fun h => h0 ((isFirst_iff t).mp h)) ((isLast_iff t).mpr h1))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [A B C D G H HS Hg]
    · isplitr [Hg]
      · isplitl [A]; · iexact A
        isplitl [B]; · iexact B
        isplitl [C]; · iexact C
        isplitl [D]; · iexact D
        isplitl [G]; · iexact G
        isplitl [H]; · iexact H
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dat1 V c) 8 t (idle1 8 (by decide) t h1).1 (idle1 8 (by decide) t h1).2, Dat.leavesExact_idle (dat1 V c) 9 t (idle1 9 (by decide) t h1).1 (idle1 9 (by decide) t h1).2, Dat.leavesExact_idle (dat1 V c) 10 t (idle1 10 (by decide) t h1).1 (idle1 10 (by decide) t h1).2, Dat.leavesExact_idle (dat1 V c) 11 t (idle1 11 (by decide) t h1).1 (idle1 11 (by decide) t h1).2]
    by_cases h0 : t.val % 16 = 0
    · refine (sep_mono (PhiS_any V c _ _) .rfl).trans ?_
      rw [PhiA1_eq, accAt_first V c t h0]
      unfold besides
      iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (main_first c (grid1.coords t) _ _ _ _ _ _ _ _ _ _ _ _ _ _ _ _ _ _ _ _ _ _ _ _ _ _
        (iblk1 V c 0 t) (iblk1 V c 1 t) (iblk1 V c 2 t) Set.univ _
        ((isFirst_iff t).mpr h0) (fun h => h1 ((isLast_iff t).mp h)))
      isplitl [H0]; · iexact H0
      isplitl [H1]; · iexact H1
      isplitl [H2]; · iexact H2
      isplitl [HS]; · iexact HS
      iintro ⟨H0, H1, H2, HS⟩
      isplitl [A B C D G H HS Hg]
      · isplitr [Hg]
        · isplitl [A]; · iexact A
          isplitl [B]; · iexact B
          isplitl [C]; · iexact C
          isplitl [D]; · iexact D
          isplitl [G]; · iexact G
          isplitl [H]; · iexact H
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
    · rw [PhiS_pos V c _ _ (fun hz => h0 (by rw [hz])), accAt_next V c t h0]
      unfold besides
      iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (main_next c (grid1.coords t) _ _ _ _ _ _ _ _ _ _ _ _ _ _ _ _ _ _ _ _ _ _ _ _ _ _
        (iblk1 V c 0 t) (iblk1 V c 1 t) (iblk1 V c 2 t) _ Set.univ _
        (fun h => h0 ((isFirst_iff t).mp h)) (fun h => h1 ((isLast_iff t).mp h)))
      isplitl [H0]; · iexact H0
      isplitl [H1]; · iexact H1
      isplitl [H2]; · iexact H2
      isplitl [HS]; · iexact HS
      iintro ⟨H0, H1, H2, HS⟩
      isplitl [A B C D G H HS Hg]
      · isplitr [Hg]
        · isplitl [A]; · iexact A
          isplitl [B]; · iexact B
          isplitl [C]; · iexact C
          isplitl [D]; · iexact D
          isplitl [G]; · iexact G
          isplitl [H]; · iexact H
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

/-- The call's body at point `t` is the printed function on that point's staging buffers. -/
theorem defs₀_row1 (t : Fin cfg1.N) :
    defs₀ (F := F) .tc cfg1.body (cfg1.bodyArgs t (cfg1.slots t)) = bodyAt1 t := by
  unfold defs₀; rw [Defs.onTc_tc]

/-- The pipeline library's obligation for the body, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-! ## The invariant's ends -/

/-- The launch state is the invariant before the first point. -/
theorem hin1 (c : Dev nD) : Pipeline.ΦA spec1 c ⊢ (dat1 V c).Φ 0 := .rfl

/-- The invariant after the last point gives the launch state back. -/
theorem hout1 (c : Dev nD) : (dat1 V c).Φ (Fin.last cfg1.N) ⊢ Pipeline.ΦA spec1 c := by
  rw [show (dat1 V c).Φ (Fin.last cfg1.N) = PhiS V c cfg1.N le_rfl from rfl]
  exact PhiS_any V c _ _

end Cert.Kernel.Hand

end
-- ==== Proof.Kernel.Run.lean ====
/-
  The whole program's run: @main as host stretches and the two calls, the two calls' segment records over `Prep`'s and
  `MainObligation`'s proof data, and what every execution ends with: the four results at named contents, the arguments as
  launched, every semaphore counter at zero.
-/
module

public import proofs.«01_k».proof.Proof.Kernel.Prep
public import proofs.«01_k».proof.Proof.Kernel.MainObligation
public import proofs.«01_k».proof.Proof.Gen.Kernel.Regions
public import Idealize.ShloMosaic.Lib.Pipeline.RegionArraysS

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! ## The frame with the results, given the calls' records -/

-- `θ_run_regions_kit_dev_sems`'s implicit arguments are found by unifying its conclusion with this one, which takes unfolding
-- plain definitions in a metavariable's type
set_option backward.isDefEq.respectTransparency.types false in
/-- The conditional frame with the results kept: given a segment record for each of the two calls, entered from the buffers at
    the contents before the call and left at the contents after it, every execution of @main from memory `m` with zero counters
    ends with the four results at their contents after the last host operations (`V9`), every argument as launched and every
    semaphore counter at zero. -/
theorem frame_values {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD,
      r.2.mem ((c.tc : Thread nD τ).loc main_v26) = V9 m outs c main_v26
      ∧ r.2.mem ((c.tc : Thread nD τ).loc main_v28) = V9 m outs c main_v28
      ∧ r.2.mem ((c.tc : Thread nD τ).loc main_v30) = V9 m outs c main_v30
      ∧ r.2.mem ((c.tc : Thread nD τ).loc main_v32) = V9 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v26) = V9 m outs c main_v26 ∧ s.mem ((c.tc : Thread nD τ).loc main_v28) = V9 m outs c main_v28 ∧ s.mem ((c.tc : Thread nD τ).loc main_v30) = V9 m outs c main_v30 ∧ s.mem ((c.tc : Thread nD τ).loc main_v32) = V9 m outs c main_v32 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        h (Proc.devRef .tc main_v28) (Finset.mem_filter.mpr ⟨StableHlo.devRef_mem_tcRefs main_v28, by decide⟩),
        h (Proc.devRef .tc main_v30) (Finset.mem_filter.mpr ⟨StableHlo.devRef_mem_tcRefs main_v30, by decide⟩),
        h (Proc.devRef .tc main_v32) (Finset.mem_filter.mpr ⟨StableHlo.devRef_mem_tcRefs main_v32, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c)⟩
    · iexact HSI

/-! ## What the two calls leave -/

local notation "𝕄" => MT nD τ sig Unit (Elt F) ℕ (UR sig nD τ) ℕ

/-- Core `c`'s buffers after the first call. -/
def W2 (c : Dev nD) : Valuation τ sig (Elt F) := Pipeline.afterRegion (dat0 (V1 m) c) (V1 m c)

/-- The first call's result alone, as the unknown the host stretches' contents are written over. -/
def outsA : Outs (F := F) := fun _ r c => W2 m c r

/-- Core `c`'s buffers when the second call is entered. -/
def W7 (c : Dev nD) : Valuation τ sig (Elt F) := V7 m (outsA m) c

/-- Core `c`'s buffers after the second call. -/
def W8 (c : Dev nD) : Valuation τ sig (Elt F) := Pipeline.afterRegion (dat1 (W7 m) c) (W7 m c)

/-- What both calls leave. -/
def outsB : Outs (F := F) := fun j r c => match j with
  | 2 => W2 m c r
  | _ => W8 m c r

/-- The second call's entry contents do not depend on what it leaves. -/
theorem W7_eq (c : Dev nD) : W7 m c = V7 m (outsB m) c := rfl

/-- An unscoped buffer the TensorCore names is one of its references. -/
theorem mem_ucRefs_devRef {b : DevRef τ sig} (hb : b ∈ Pipeline.ucRefs τ sig) : ∃ r : Ref sig .tc, Proc.devRef .tc r = b := by
  obtain ⟨r, -, rfl⟩ := Finset.mem_map.mp (Finset.mem_filter.mp hb).1
  exact ⟨r, rfl⟩

/-- The first call changes its result's array only. -/
theorem W2_eq (c : Dev nD) : ∀ b ∈ Pipeline.ucRefs τ sig, W2 m c b = V2 m (outsB m) c b := by
  intro b hb
  obtain ⟨r, rfl⟩ := mem_ucRefs_devRef hb
  by_cases h : r = main_v3
  · subst h
    exact (Function.update_self (β := fun b : DevRef τ sig => b.ty.Contents (Elt F)) _ _ _).symm
  · rw [V2_of m (outsB m) c r (by simpa using h)]
    refine Pipeline.afterRegion_keeps (dat0 (V1 m) c) (V1 m c) launch0.win.arr_inj (fun w => A0_eq (V1 m) c w) r (fun w hw => ?_)
    fin_cases w
    · rfl
    · rfl
    · exact absurd hw.symm h

/-- The second call changes its four results' arrays only. -/
theorem W8_eq (c : Dev nD) : ∀ b ∈ Pipeline.ucRefs τ sig, W8 m c b = V8 m (outsB m) c b := by
  intro b hb
  obtain ⟨r, rfl⟩ := mem_ucRefs_devRef hb
  by_cases h : r ∈ ([main_v24_0, main_v24_1, main_v24_2, main_v24_3] : List (Ref sig .tc))
  · simp only [List.mem_cons, List.not_mem_nil, or_false] at h
    rcases h with rfl | rfl | rfl | rfl
    · unfold V8
      rw [Function.update_of_ne (StableHlo.devRef_ne_of_ne (by decide)), Function.update_of_ne (StableHlo.devRef_ne_of_ne (by decide)), Function.update_of_ne (StableHlo.devRef_ne_of_ne (by decide)), Function.update_self]
      rfl
    · unfold V8
      rw [Function.update_of_ne (StableHlo.devRef_ne_of_ne (by decide)), Function.update_of_ne (StableHlo.devRef_ne_of_ne (by decide)), Function.update_self]
      rfl
    · unfold V8
      rw [Function.update_of_ne (StableHlo.devRef_ne_of_ne (by decide)), Function.update_self]
      rfl
    · unfold V8
      rw [Function.update_self]
      rfl
  · rw [V8_of m (outsB m) c r h]
    refine Pipeline.afterRegion_keeps (dat1 (W7 m) c) (W7 m c) launch1.win.arr_inj (fun w => A1_eq (W7 m) c w) r (fun w hw => ?_)
    have hn : ∀ w : Fin cfg1.W, (cfg1.win w).isOut = true → Pipeline.arrRef cfg1.spec w ∈ ([main_v24_0, main_v24_1, main_v24_2, main_v24_3] : List (Ref sig .tc)) := by
      decide
    by_contra hc
    exact h (hw ▸ hn w (by simpa using hc))

/-! ## The calls' segment records -/

/-- The two calls' proof data. -/
def pdats (p : Fin 2) (c : Dev nD) : Dat τ (Elt F) Unit ℕ (UR sig nD τ) ℕ (cfgs p) c := match p with
  | ⟨0, _⟩ => dat0 (V1 m) c
  | ⟨1, _⟩ => dat1 (W7 m) c

open Classical in
/-- Every TensorCore counter may be waited on, at one level. -/
def L : GSem nD τ sig → Finset Unit := fun g => if g.1.2 = .tc then {()} else ∅
/-- Every counter's level is zero. -/
def lv : GSem nD τ sig → Unit → ℕ := fun _ _ => 0

/-- Counters of other processors are not waited on. -/
theorem L_off (g : GSem nD τ sig) (h : g.1.2 ≠ .tc) : L g = ∅ := if_neg h
/-- Every counter of the TensorCore may be waited on. -/
theorem mem_L (c : Dev nD) (s : SemLoc sig) : () ∈ L (((c : Thread nD τ), s) : GSem nD τ sig) := by
  unfold L; rw [if_pos rfl]; exact Finset.mem_singleton_self _

/-- What rides beside the buffers: the core owes nothing, and its generator register. -/
def E (_ : Fin 3) (c : Dev nD) : sProp 𝕄 :=
  iprop((∃ Wd, owes (c : Thread nD τ) (0 : CellTallies nD τ sig Unit) Wd) ∗ (∃ r, prngReg c r) ∗ emp)

/-- No debt is owed at any level. -/
theorem cut (p : Fin 2) : Pipeline.LevelCut (pcfgs (F := F)) adm () L lv p (fun _ => (0 : CellTallies nD τ sig Unit)) (fun _ => 0) where
  hι c w s := mem_L c _
  hιb c w s := le_rfl
  hD c g i h := absurd h (lt_irrefl 0)

/-- The first call's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl)
    (fun c => (dat0 (V1 m) c).share_full fun _ => rfl) (fun _ => .rfl) (fun _ => .rfl)
    (fun _ => 0) (cut 0) (fun _ => iprop(emp)) (V1 m) (fun c w => A0_eq (V1 m) c w)

/-- The second call's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W7 m) c).loose) (fun _ _ => rfl) (fun _ => rfl)
    (fun c => (dat1 (W7 m) c).share_full fun _ => rfl) (fun c => hin1 (W7 m) c) (fun c => hout1 (W7 m) c)
    (fun _ => 0) (cut 1) (fun _ => iprop(emp)) (W7 m) (fun c w => A1_eq (W7 m) c w)

/-- The first call's arrays are among the unscoped buffers. -/
theorem arrs0 : Pipeline.arrRefs (τ := τ) (pcfgs (F := F) 0).spec ⊆ Pipeline.ucRefs τ sig :=
  Pipeline.arrRefs_sub_ucRefs _ (show ∀ w, (Pipeline.arrRef spec0 w).isScoped = false from by decide)
/-- The second call's arrays are among the unscoped buffers. -/
theorem arrs1 : Pipeline.arrRefs (τ := τ) (pcfgs (F := F) 1).spec ⊆ Pipeline.ucRefs τ sig :=
  Pipeline.arrRefs_sub_ucRefs _ (show ∀ w, (Pipeline.arrRef spec1 w).isScoped = false from by decide)

/-- The first call is entered from the buffers at `V1`, -/
theorem R0_pre (c : Dev nD) :
    iprop(StableHlo.held (c : Thread nD τ) (Pipeline.ucRefs τ sig) (V1 m c) ∗ E (F := F) 0 c) ⊢ (R0 m).pre c := by
  unfold R0 E
  exact RegionSeg.ofHeldIn_pre (pcs := pcfgs (F := F)) (p := 0) (D := fun _ => 0) (X := fun c => iprop(∃ r, prngReg c r))
    (R := fun _ => iprop(emp)) (W := V1 m) arrs0 c
/-- and left with them at `W2`. -/
theorem R0_post' (c : Dev nD) :
    (R0 m).post c ⊢ iprop(StableHlo.held (c : Thread nD τ) (Pipeline.ucRefs τ sig) (W2 m c) ∗ E (F := F) 1 c) := by
  unfold R0 E W2
  exact RegionSeg.ofHeldIn_post (pcs := pcfgs (F := F)) (p := 0) arrs0 c
/-- The same with the contents as one update of those before. -/
theorem R0_post (c : Dev nD) :
    (R0 m).post c ⊢ iprop(StableHlo.held (c : Thread nD τ) (Pipeline.ucRefs τ sig) (V2 m (outsB m) c) ∗ E (F := F) 1 c) := by
  rw [← StableHlo.held_congr (c : Thread nD τ) (W2_eq m c)]
  exact R0_post' m c
/-- The second call is entered from the buffers at `W7`, -/
theorem R1_pre (c : Dev nD) :
    iprop(StableHlo.held (c : Thread nD τ) (Pipeline.ucRefs τ sig) (V7 m (outsB m) c) ∗ E (F := F) 1 c) ⊢ (R1 m).pre c := by
  rw [← W7_eq m c]
  unfold R1 E
  exact RegionSeg.ofHeldIn_pre (pcs := pcfgs (F := F)) (p := 1) (D := fun _ => 0) (X := fun c => iprop(∃ r, prngReg c r))
    (R := fun _ => iprop(emp)) (W := W7 m) arrs1 c
/-- and left with them at `W8`. -/
theorem R1_post' (c : Dev nD) :
    (R1 m).post c ⊢ iprop(StableHlo.held (c : Thread nD τ) (Pipeline.ucRefs τ sig) (W8 m c) ∗ E (F := F) 2 c) := by
  unfold R1 E W8
  exact RegionSeg.ofHeldIn_post (pcs := pcfgs (F := F)) (p := 1) arrs1 c
/-- The same with the contents as updates of those before. -/
theorem R1_post (c : Dev nD) :
    (R1 m).post c ⊢ iprop(StableHlo.held (c : Thread nD τ) (Pipeline.ucRefs τ sig) (V8 m (outsB m) c) ∗ E (F := F) 2 c) := by
  rw [← StableHlo.held_congr (c : Thread nD τ) (W8_eq m c)]
  exact R1_post' m c

/-- The launch makes what rides beside the buffers. -/
theorem launch_rest (ρ : Dev nD → PrngReg) (c : Dev nD) :
    (iprop(unscopedSems0 c ∗ owes (c : Thread nD τ) (0 : CellTallies nD τ sig Unit) ∅
        ∗ Pipeline.launchCred (fun _ => 0) c ∗ prngReg c (ρ c) ∗ emp) : sProp 𝕄) ⊢ E (F := F) 0 c := by
  unfold E
  iintro ⟨-, HO, -, Hp, -⟩
  isplitl [HO]; · iexists _; iexact HO
  isplitl [Hp]; · iexists _; iexact Hp
  iempintro

/-! ## The run -/

/-- Every execution of @main from memory `m` with zero counters ends with the four results at `V9`'s contents, every
    argument as launched and every semaphore counter at zero. -/
theorem run_values (ρ : Dev nD → PrngReg) :
    θ_run defs (onTc (τ := τ) (main (F := F))) ⟨m, fun _ => 0, ρ⟩ (fun r => (∀ c : Dev nD,
      r.2.mem ((c.tc : Thread nD τ).loc main_v26) = V9 m (outsB m) c main_v26
      ∧ r.2.mem ((c.tc : Thread nD τ).loc main_v28) = V9 m (outsB m) c main_v28
      ∧ r.2.mem ((c.tc : Thread nD τ).loc main_v30) = V9 m (outsB m) c main_v30
      ∧ r.2.mem ((c.tc : Thread nD τ).loc main_v32) = V9 m (outsB m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine frame_values m emb₁ () Variants.none L lv L_off ρ (outsB m) (pdats m) (fun _ => 0) (fun _ => iprop(emp))
    (initOf (Pipeline.cells cfgs cellOf_inj) (Pipeline.launchToks cfgs cellOf_inj)) ?_ E ?_ ?_ (R0 m) ?_ ?_ (R1 m) ?_ ?_
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨H, -⟩; imodintro
    iapply (show _ ⊢ bigSep Finset.univ (E (F := F) 0) from bigSep_mono fun c _ => launch_rest ρ c) $$ H
  · intro c; unfold E; iintro ⟨HO, -⟩; iexact HO
  · exact R0_pre m
  · exact R0_post m
  · exact R1_pre m
  · exact R1_post m

end Cert.Kernel.Hand

end
-- ==== Proof.KernelIdeal.Prep.lean ====
/-
  The first pallas_call (`prep_x`): one block transposed and scaled per grid point.

  Everything is stated for ANY contents `V` of the device's buffers when the call is entered: what the call's staging
  buffers hold when its body runs, what the body leaves in them, and the body's triple. The body loads the codes' block
  and the scales' block, and stores `k0_pay1` of the two over the whole output block.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array's contents at the call's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- A store over the whole output block covers it. -/
theorem cover0 (p0 : Vec F S1024x512 .bf16) (y : S1024x512.Idx) :
    ∃ pc ∈ ([⟨Rect.unit (s := S1024x512) ![0, 0] S1024x512.size inb_S1024x512_S1024x512_0_0, p0⟩] : List (View.Piece (Elt F) S1024x512 .bf16)), y ∈ pc.1.set :=
  View.cover_of_tiled [⟨Rect.unit (s := S1024x512) ![0, 0] S1024x512.size inb_S1024x512_S1024x512_0_0, p0⟩] S1024x512.size (by rfl) y

/-! ## The body's triple -/

set_option maxHeartbeats 1000000 in
/-- The body on whole staging buffers, the inputs at `x0`, `x1` and the output at anything, ends with the inputs as they
    were and the output at `k0_pay1 x0 x1`. -/
theorem prep_body (c : Dev nD) (E : Set ℕ) (i : grid0.Coords) (arg2 : Memref sig .tc .vmem S512x1024 .fp8e4m3) (harg2 : arg2.IsWhole) (arg3 : Memref sig .tc .vmem S512x1 .f32) (harg3 : arg3.IsWhole) (arg4 : Memref sig .tc .vmem S1024x512 .bf16) (harg4 : arg4.IsWhole)
    (x0 : Vec F S512x1024 .fp8e4m3) (x1 : Vec F S512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0_prep_x i arg2 harg2 arg3 harg3 arg4 harg4) K := by
  simp only [cc0_prep_x_eq_skeleton]; unfold cc0_prep_x_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0 _)).trans ?_
  simp (disch := decide) only [View.canon_cons_unit_lit', View.readAt_eq_ld, View.ld_unit_lit']

/-! ## The pipeline's proof data -/

/-- The first call's proof data on core `c`: the arrays as found; after the body at point `t` each input's buffer at its
    block and the output's at `k0_pay1` of the two; the scoped buffers it does not stage untouched; nothing owed. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- The call's arrays start as found. -/
theorem A0_eq (c : Dev nD) (w : Fin cfg0.W) : (dat0 V c).A w = V c (Proc.devRef .tc (Pipeline.arrRef spec0 w)) := by
  dsimp only [dat0]

/-- What the body leaves in window 0's staging buffer. -/
theorem after0_0 (c : Dev nD) (t : Fin cfg0.N) : (dat0 V c).after 0 t = iblk0 V c 0 t := by dsimp only [dat0]
/-- What the body leaves in window 1's staging buffer. -/
theorem after0_1 (c : Dev nD) (t : Fin cfg0.N) : (dat0 V c).after 1 t = iblk0 V c 1 t := by dsimp only [dat0]
/-- What the body leaves in window 2's staging buffer. -/
theorem after0_2 (c : Dev nD) (t : Fin cfg0.N) : (dat0 V c).after 2 t = k0_pay1 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- Window 1's staging buffer holds its block. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (prep_body c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's body at point `t` is the printed function on that point's staging buffers. -/
theorem defs₀_row0 (t : Fin cfg0.N) :
    defs₀ (F := F) .tc cfg0.body (cfg0.bodyArgs t (cfg0.slots t)) = bodyAt0 t := by
  unfold defs₀; rw [Defs.onTc_tc]

/-- The pipeline library's obligation for the body, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.MainBody.lean ====
/-
  The second pallas_call (`main`): the body's three cases.

  The body keeps a running product in a scratch buffer. At the first of the sixteen steps of an output tile it starts
  from zeros (`main_first`), at the others from what the step before left (`main_next`); at the last it also reads the
  four results of the tile off the finished product (`main_last`).
-/
module

public import proofs.«01_k».proof.Proof.KernelIdeal.Prep

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body zeroes its scratch, -/
abbrev isFirst (i : grid1.Coords) : Prop := (Scalar.cmpi .ne (Scalar.extui (Scalar.cmpi .eq (BitVec.ofNat 32 (i 2).val) 0#32)) 0#32) = 1#1
/-- and the condition under which it writes the tile's results. -/
abbrev isLast (i : grid1.Coords) : Prop := k1_cond2 i = 1#1

/-- The first holds at the points that are multiples of 16, -/
theorem isFirst_iff : ∀ t : Fin cfg1.N, isFirst (grid1.coords t) ↔ t.val % 16 = 0 :=
  (fun t => by
    have ht : t.val < 896 := Nat.lt_of_lt_of_eq t.isLt N_1
    have e2 : (grid1.coords t 2).val = t.val / 1 % 16 := Pipeline.Grid.coords_val t 2 (by decide) rfl
    simp only [isFirst, e2]
    word_cmp
   : ∀ t : Fin grid1.N, isFirst (grid1.coords t) ↔ t.val % 16 = 0)

/-- the second at the points just before them. -/
theorem isLast_iff : ∀ t : Fin cfg1.N, isLast (grid1.coords t) ↔ t.val % 16 = 15 :=
  (fun t => by
    have ht : t.val < 896 := Nat.lt_of_lt_of_eq t.isLt N_1
    have e2 : (grid1.coords t 2).val = t.val / 1 % 16 := Pipeline.Grid.coords_val t 2 (by decide) rfl
    simp only [isLast, k1_cond2, e2]
    word_cmp
   : ∀ t : Fin grid1.N, isLast (grid1.coords t) ↔ t.val % 16 = 15)

/-! ## Whole-buffer stores -/

/-- What a whole-buffer store leaves, read back, whatever was stored before it. -/
theorem read_store_whole {κ : Kind} {sp : Space} {S : Shape} {e : EltTy} (v : View sig κ sp S e) (f : v.ty.Contents (Elt F))
    (off : Fin S.rank → Nat) (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  obtain rfl := View.eq_zero_of_forall h
  refine (View.read_writes_eq_canon _ _ _ (fun y => ⟨_, List.mem_cons_self, ?_⟩)).trans (View.canon_cons_unit_lit' inb w L (fun _ => rfl))
  show y ∈ (Rect.whole S).set
  rw [Rect.set_whole]; exact Finset.mem_univ y

/-! ## The body's triples -/

set_option maxHeartbeats 2000000 in
/-- A tile's first step: whatever the scratch held, it ends holding the product of this step's blocks added to zeros. -/
theorem main_first (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (E : Set ℕ) (K : PUnit → sProp 𝕄)
  (h0 : isFirst i) (h1 : ¬ isLast i) :
    iprop(owns (c : Thread nD τ) arg3 fullShare x0 ∗ owns (c : Thread nD τ) arg4 fullShare x1 ∗ owns (c : Thread nD τ) arg5 fullShare x2
        ∗ (∃ d, owns (c : Thread nD τ) arg15 fullShare d)
        ∗ (iprop(owns (c : Thread nD τ) arg3 fullShare x0 ∗ owns (c : Thread nD τ) arg4 fullShare x1 ∗ owns (c : Thread nD τ) arg5 fullShare x2
            ∗ owns (c : Thread nD τ) arg15 fullShare (k1_pay2 x1 x2 (k1_pay1 (F := F)) x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  unfold owns
  iintro ⟨⟨%f0, %hf0, H0⟩, ⟨%f1, %hf1, H1⟩, ⟨%f2, %hf2, H2⟩, ⟨%d, %fs, -, HS⟩, Hk⟩
  subst hf0 hf1 hf2
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact HS
  ipureintro
  refine (read_store_whole _ _ _ _ _ _ (by decide)).trans ?_
  unfold main_first.sl.v11
  try unfold main_first.sl.HS_1
  simp (disch := decide) only [View.canon_cons_unit_lit', View.readAt_eq_ld, View.ld_unit_lit', View.readCov_unit_lit', View.readCov_cons_unit_lit']

set_option maxHeartbeats 2000000 in
/-- A step that is neither first nor last: the product of this step's blocks is added to what the scratch held. -/
theorem main_next (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (xs : Vec F S1024x1024 .f32) (E : Set ℕ) (K : PUnit → sProp 𝕄)
  (h0 : ¬ isFirst i) (h1 : ¬ isLast i) :
    iprop(owns (c : Thread nD τ) arg3 fullShare x0 ∗ owns (c : Thread nD τ) arg4 fullShare x1 ∗ owns (c : Thread nD τ) arg5 fullShare x2
        ∗ owns (c : Thread nD τ) arg15 fullShare xs
        ∗ (iprop(owns (c : Thread nD τ) arg3 fullShare x0 ∗ owns (c : Thread nD τ) arg4 fullShare x1 ∗ owns (c : Thread nD τ) arg5 fullShare x2
            ∗ owns (c : Thread nD τ) arg15 fullShare (k1_pay2 x1 x2 xs x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr
  swap; · iexact HS
  ipureintro
  refine (read_store_whole _ _ _ _ _ _ (by decide)).trans ?_
  simp (disch := decide) only [View.readAt_eq_ld, View.ld_unit_lit']

set_option maxHeartbeats 4000000 in
/-- A tile's last step: the product is completed, and the four results of the tile are written from it, the weights, the
    mask and the two 0/1 matrices. -/
theorem main_last (c : Dev nD) (i : grid1.Coords)
  (arg3 : Memref sig .tc .vmem S1024x1024 .bf16) (harg3 : arg3.IsWhole) (arg4 : Memref sig .tc .vmem S1024x1024 .fp8e5m2) (harg4 : arg4.IsWhole)
  (arg5 : Memref sig .tc .vmem S1024x1 .f32) (harg5 : arg5.IsWhole) (arg6 : Memref sig .tc .vmem S1024x1024 .fp8e4m3) (harg6 : arg6.IsWhole)
  (arg7 : Memref sig .tc .vmem S1x1024 .f32) (harg7 : arg7.IsWhole) (arg8 : Memref sig .tc .vmem S1024x128 .i8) (harg8 : arg8.IsWhole)
  (arg9 : Memref sig .tc .vmem S128x1024 .bf16) (harg9 : arg9.IsWhole) (arg10 : Memref sig .tc .vmem S1024x32 .f32) (harg10 : arg10.IsWhole)
  (arg11 : Memref sig .tc .vmem S1x32x32 .f32) (harg11 : arg11.IsWhole) (arg12 : Memref sig .tc .vmem S1x1024x32 .f32) (harg12 : arg12.IsWhole)
  (arg13 : Memref sig .tc .vmem S1x32x32 .f32) (harg13 : arg13.IsWhole) (arg14 : Memref sig .tc .vmem S1x32x32 .f32) (harg14 : arg14.IsWhole)
  (arg15 : Memref sig .tc .vmem S1024x1024 .f32) (harg15 : arg15.IsWhole)
  (x0 : Vec F S1024x1024 .bf16) (x1 : Vec F S1024x1024 .fp8e5m2) (x2 : Vec F S1024x1 .f32) (x3 : Vec F S1024x1024 .fp8e4m3)
  (x4 : Vec F S1x1024 .f32) (x5 : Vec F S1024x128 .i8) (x6 : Vec F S128x1024 .bf16) (x7 : Vec F S1024x32 .f32) (xs : Vec F S1024x1024 .f32)
  (E : Set ℕ) (K : PUnit → sProp 𝕄)
  (h0 : ¬ isFirst i) (h1 : isLast i) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ owns (c : Thread nD τ) arg15 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ owns (c : Thread nD τ) arg11 fullShare (k1_pay6 x5 x6 (k1_pay2 x1 x2 xs x0))
            ∗ owns (c : Thread nD τ) arg12 fullShare (k1_pay5 x5 x6 (k1_pay2 x1 x2 xs x0) x7)
            ∗ owns (c : Thread nD τ) arg13 fullShare (k1_pay9 (k1_pay3 x5 x6) x3 x4)
            ∗ owns (c : Thread nD τ) arg14 fullShare (k1_pay8 (k1_pay3 x5 x6) x3 x4 x7)
            ∗ owns (c : Thread nD τ) arg15 fullShare (k1_pay2 x1 x2 xs x0)) -∗ K ⟨⟩))
      ⊢ wp frame (wpE (defs₀ (F := F)) Variants.none c none) E (cc1_main i arg3 harg3 arg4 harg4 arg5 harg5 arg6 harg6 arg7 harg7 arg8 harg8 arg9 harg9 arg10 harg10 arg11 harg11 arg12 harg12 arg13 harg13 arg14 harg14 arg15 harg15) K := by
  simp only [cc1_main_eq_skeleton]; unfold cc1_main_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs, %hfs, HS⟩, Hk⟩
  subst hf0 hf1 hf2 hf3 hf4 hf5 hf6 hf7 hfs
  sl_exec (disch := first | sl_exact h0 | sl_exact h1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H9]
  · iexists _; isplitr
    swap; · iexact H9
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H10]
  · iexists _; isplitr
    swap; · iexact H10
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  isplitl [H11]
  · iexists _; isplitr
    swap; · iexact H11
    ipureintro
    refine (read_store_whole _ _ _ _ _ _ (by decide)).trans ?_
    try unfold main_last.sl.r
    try unfold main_last.sl.v38
    try unfold main_last.sl.HS_1
    simp (disch := decide) only [View.canon_cons_unit_lit', View.readAt_eq_ld, View.ld_unit_lit', View.readCov_unit_lit', View.readCov_cons_unit_lit']
  iexists _; isplitr
  swap; · iexact HS
  ipureintro
  refine (read_store_whole _ _ _ _ _ _ (by decide)).trans ?_
  simp (disch := decide) only [View.canon_cons_unit_lit', View.readAt_eq_ld, View.ld_unit_lit', View.readCov_unit_lit', View.readCov_cons_unit_lit']

end Cert.KernelIdeal.Hand

end
-- ==== Proof.KernelIdeal.MainData.lean ====
/-
  The second pallas_call (`main`): its proof data and the obligation for its body.

  For any contents `V` of the buffers at the call's entry: the running product after each grid point (`accAt`), what the
  body leaves in each staging buffer, the invariant that carries the scratch buffer from one point to the next, and the
  body's obligation at a generic point, by the three cases of `MainBody`.
-/
module

public import proofs.«01_k».proof.Proof.KernelIdeal.MainBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks and the running product -/

/-- Window `w`'s block at point `t`, read off its array's contents at the call's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The scratch buffer's contents after point `n`: this point's product added to zeros at the first of every sixteen
    points, to the point before's contents at the others. -/
def accAt (c : Dev nD) : (n : ℕ) → n < cfg1.N → Vec F S1024x1024 .f32
  | 0, h => k1_pay2 (iblk1 V c 1 ⟨0, h⟩) (iblk1 V c 2 ⟨0, h⟩) (k1_pay1 (F := F)) (iblk1 V c 0 ⟨0, h⟩)
  | n + 1, h => k1_pay2 (iblk1 V c 1 ⟨n + 1, h⟩) (iblk1 V c 2 ⟨n + 1, h⟩)
      (if (n + 1) % 16 = 0 then k1_pay1 (F := F) else accAt c n (Nat.lt_of_succ_lt h)) (iblk1 V c 0 ⟨n + 1, h⟩)

/-- At the first of sixteen points the running product starts from zeros. -/
theorem accAt_first (c : Dev nD) (t : Fin cfg1.N) (h0 : t.val % 16 = 0) :
    accAt V c t.val t.isLt = k1_pay2 (iblk1 V c 1 t) (iblk1 V c 2 t) (k1_pay1 (F := F)) (iblk1 V c 0 t) := by
  obtain ⟨n, hn⟩ := t
  cases n with
  | zero => rfl
  | succ n => unfold accAt; rw [if_pos h0]

/-- At the others it continues from the point before. -/
theorem accAt_next (c : Dev nD) (t : Fin cfg1.N) (h0 : ¬ t.val % 16 = 0) :
    accAt V c t.val t.isLt = k1_pay2 (iblk1 V c 1 t) (iblk1 V c 2 t) (accAt V c (t.val - 1) (Nat.lt_of_le_of_lt (Nat.sub_le _ _) t.isLt)) (iblk1 V c 0 t) := by
  obtain ⟨n, hn⟩ := t
  cases n with
  | zero => exact absurd (Nat.zero_mod _) h0
  | succ n => rw [accAt]; rw [if_neg h0]; rfl

/-! ## The invariant between points -/

/-- The kernel's scratch buffer. -/
abbrev scr : Memref sig .tc .vmem S1024x1024 .f32 := Memref.whole cc1_scratch0

/-- The first call's six staging buffers, at anything (the second call does not touch them), beside `P`. -/
def besides (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The second call's untouched scoped buffers and its scratch at anything, beside the generator register. -/
theorem PhiA1_eq (c : Dev nD) :
    (Pipeline.ΦA spec1 c : sProp 𝕄) = iprop(besides c iprop(∃ d, owns (c : Thread nD τ) scr fullShare d) ∗ (∃ r, prngReg c r)) := by
  unfold Pipeline.ΦA besides; rw [scopedRest1_eq]; simp only [scr, owns_whole]; try rfl

/-- The invariant before point `n`: at the start the scratch holds anything, afterwards what the point before left. -/
def PhiS (c : Dev nD) : (n : ℕ) → n ≤ cfg1.N → sProp 𝕄
  | 0, _ => Pipeline.ΦA spec1 c
  | n + 1, hn => iprop(besides c (owns (c : Thread nD τ) scr fullShare (accAt V c n hn)) ∗ (∃ r, prngReg c r))

/-- The invariant after point `n`: the scratch holds what that point left. -/
theorem PhiS_succ (c : Dev nD) (n : ℕ) (hn : n < cfg1.N) :
    PhiS V c (n + 1) hn = iprop(besides c (owns (c : Thread nD τ) scr fullShare (accAt V c n hn)) ∗ (∃ r, prngReg c r)) := rfl

/-- The invariant before a point other than the first. -/
theorem PhiS_pos (c : Dev nD) (n : ℕ) (h : n ≤ cfg1.N) (hz : n ≠ 0) :
    PhiS V c n h = iprop(besides c (owns (c : Thread nD τ) scr fullShare (accAt V c (n - 1) (by omega))) ∗ (∃ r, prngReg c r)) := by
  cases n with
  | zero => exact absurd rfl hz
  | succ n => rfl

/-- At any point the invariant holds the scratch at something. -/
theorem PhiS_any (c : Dev nD) (n : ℕ) (h : n ≤ cfg1.N) : PhiS V c n h ⊢ Pipeline.ΦA spec1 c := by
  cases n with
  | zero => exact .rfl
  | succ n =>
    rw [PhiS_succ, PhiA1_eq]; unfold besides
    iintro ⟨⟨A, B, C, D, G, H, HS⟩, Hg⟩
    isplitr [Hg]
    · isplitl [A]; · iexact A
      isplitl [B]; · iexact B
      isplitl [C]; · iexact C
      isplitl [D]; · iexact D
      isplitl [G]; · iexact G
      isplitl [H]; · iexact H
      iexists _; iexact HS
    iexact Hg

/-! ## The pipeline's proof data -/

/-- The second call's proof data on core `c`: the arrays as found; after the body at point `t` each input's buffer at its
    block, each output's at the result read off the running product (written back only at a tile's last step); the
    invariant `PhiS`; nothing owed. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay6 (iblk1 V c 5 t) (iblk1 V c 6 t) (accAt V c t.val t.isLt)
    | ⟨9, _⟩ => k1_pay5 (iblk1 V c 5 t) (iblk1 V c 6 t) (accAt V c t.val t.isLt) (iblk1 V c 7 t)
    | ⟨10, _⟩ => k1_pay9 (k1_pay3 (iblk1 V c 5 t) (iblk1 V c 6 t)) (iblk1 V c 3 t) (iblk1 V c 4 t)
    | ⟨11, _⟩ => k1_pay8 (k1_pay3 (iblk1 V c 5 t) (iblk1 V c 6 t)) (iblk1 V c 3 t) (iblk1 V c 4 t) (iblk1 V c 7 t)
  Φ t := PhiS V c t.val (Nat.le_of_lt_succ t.isLt)
  q _ := fullShare
  owed _ := 0

/-- The call's arrays start as found. -/
theorem A1_eq (c : Dev nD) (w : Fin cfg1.W) : (dat1 V c).A w = V c (Proc.devRef .tc (Pipeline.arrRef spec1 w)) := by
  dsimp only [dat1]

/-- The invariant of the proof data is `PhiS`. -/
theorem Phi1_castSucc (c : Dev nD) (t : Fin cfg1.N) : (dat1 V c).Φ t.castSucc = PhiS V c t.val (Nat.le_of_lt t.isLt) := by
  dsimp only [dat1]; exact Pipeline.Dat.Φ_castSucc (PhiS V c) t

/-- What the body leaves in window 0's staging buffer. -/
theorem after1_0 (c : Dev nD) (t : Fin cfg1.N) : (dat1 V c).after 0 t = iblk1 V c 0 t := by dsimp only [dat1]
/-- What the body leaves in window 1's staging buffer. -/
theorem after1_1 (c : Dev nD) (t : Fin cfg1.N) : (dat1 V c).after 1 t = iblk1 V c 1 t := by dsimp only [dat1]
/-- What the body leaves in window 2's staging buffer. -/
theorem after1_2 (c : Dev nD) (t : Fin cfg1.N) : (dat1 V c).after 2 t = iblk1 V c 2 t := by dsimp only [dat1]
/-- What the body leaves in window 3's staging buffer. -/
theorem after1_3 (c : Dev nD) (t : Fin cfg1.N) : (dat1 V c).after 3 t = iblk1 V c 3 t := by dsimp only [dat1]
/-- What the body leaves in window 4's staging buffer. -/
theorem after1_4 (c : Dev nD) (t : Fin cfg1.N) : (dat1 V c).after 4 t = iblk1 V c 4 t := by dsimp only [dat1]
/-- What the body leaves in window 5's staging buffer. -/
theorem after1_5 (c : Dev nD) (t : Fin cfg1.N) : (dat1 V c).after 5 t = iblk1 V c 5 t := by dsimp only [dat1]
/-- What the body leaves in window 6's staging buffer. -/
theorem after1_6 (c : Dev nD) (t : Fin cfg1.N) : (dat1 V c).after 6 t = iblk1 V c 6 t := by dsimp only [dat1]
/-- What the body leaves in window 7's staging buffer. -/
theorem after1_7 (c : Dev nD) (t : Fin cfg1.N) : (dat1 V c).after 7 t = iblk1 V c 7 t := by dsimp only [dat1]
/-- What the body leaves in window 8's staging buffer. -/
theorem after1_8 (c : Dev nD) (t : Fin cfg1.N) : (dat1 V c).after 8 t = k1_pay6 (iblk1 V c 5 t) (iblk1 V c 6 t) (accAt V c t.val t.isLt) := by dsimp only [dat1]
/-- What the body leaves in window 9's staging buffer. -/
theorem after1_9 (c : Dev nD) (t : Fin cfg1.N) : (dat1 V c).after 9 t = k1_pay5 (iblk1 V c 5 t) (iblk1 V c 6 t) (accAt V c t.val t.isLt) (iblk1 V c 7 t) := by dsimp only [dat1]
/-- What the body leaves in window 10's staging buffer. -/
theorem after1_10 (c : Dev nD) (t : Fin cfg1.N) : (dat1 V c).after 10 t = k1_pay9 (k1_pay3 (iblk1 V c 5 t) (iblk1 V c 6 t)) (iblk1 V c 3 t) (iblk1 V c 4 t) := by dsimp only [dat1]
/-- What the body leaves in window 11's staging buffer. -/
theorem after1_11 (c : Dev nD) (t : Fin cfg1.N) : (dat1 V c).after 11 t = k1_pay8 (k1_pay3 (iblk1 V c 5 t) (iblk1 V c 6 t)) (iblk1 V c 3 t) (iblk1 V c 4 t) (iblk1 V c 7 t) := by dsimp only [dat1]

/-! Each input's staging buffer holds its block at every point, fetched there or not. -/

/-- Window 0's staging buffer holds its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Window 1's staging buffer holds its block. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
/-- Window 2's staging buffer holds its block. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
/-- Window 3's staging buffer holds its block. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
/-- Window 4's staging buffer holds its block. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
/-- Window 5's staging buffer holds its block. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
/-- Window 6's staging buffer holds its block. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
/-- Window 7's staging buffer holds its block. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

/-! ## Where the outputs are idle -/

/-! Output by output, over all the points. -/

/-- Window 8 is idle before a tile's last point. -/
theorem idle1_8 : ∀ t : Fin cfg1.N, ¬ t.val % 16 = 15 → cfg1.idle 8 (grid1.coords t) = true := by decide +kernel
/-- Window 8 is live at a tile's last point. -/
theorem live1_8 : ∀ t : Fin cfg1.N, t.val % 16 = 15 → cfg1.idle 8 (grid1.coords t) = false := by decide +kernel
/-- Window 9 is idle before a tile's last point. -/
theorem idle1_9 : ∀ t : Fin cfg1.N, ¬ t.val % 16 = 15 → cfg1.idle 9 (grid1.coords t) = true := by decide +kernel
/-- Window 9 is live at a tile's last point. -/
theorem live1_9 : ∀ t : Fin cfg1.N, t.val % 16 = 15 → cfg1.idle 9 (grid1.coords t) = false := by decide +kernel
/-- Window 10 is idle before a tile's last point. -/
theorem idle1_10 : ∀ t : Fin cfg1.N, ¬ t.val % 16 = 15 → cfg1.idle 10 (grid1.coords t) = true := by decide +kernel
/-- Window 10 is live at a tile's last point. -/
theorem live1_10 : ∀ t : Fin cfg1.N, t.val % 16 = 15 → cfg1.idle 10 (grid1.coords t) = false := by decide +kernel
/-- Window 11 is idle before a tile's last point. -/
theorem idle1_11 : ∀ t : Fin cfg1.N, ¬ t.val % 16 = 15 → cfg1.idle 11 (grid1.coords t) = true := by decide +kernel
/-- Window 11 is live at a tile's last point. -/
theorem live1_11 : ∀ t : Fin cfg1.N, t.val % 16 = 15 → cfg1.idle 11 (grid1.coords t) = false := by decide +kernel

/-- The four outputs' buffers are idle, and not written back, but at a tile's last step. -/
theorem idle1 (w : Fin cfg1.W) (hw : 8 ≤ w.val) (t : Fin cfg1.N) (h : ¬ t.val % 16 = 15) :
    cfg1.idle w (grid1.coords t) = true ∧ (cfg1.win w).flush t = false := by
  have hc : ¬ isLast (grid1.coords t) := fun hl => h ((isLast_iff t).mp hl)
  obtain ⟨w, hlt⟩ := w
  have hlt' : w < 12 := hlt
  obtain rfl | rfl | rfl | rfl : w = 8 ∨ w = 9 ∨ w = 10 ∨ w = 11 := by dsimp only at hw; omega
  · exact ⟨idle1_8 t h, Bool.eq_false_iff.mpr fun hf => h ((flush1_8 t).mp hf)⟩
  · exact ⟨idle1_9 t h, Bool.eq_false_iff.mpr fun hf => h ((flush1_9 t).mp hf)⟩
  · exact ⟨idle1_10 t h, Bool.eq_false_iff.mpr fun hf => h ((flush1_10 t).mp hf)⟩
  · exact ⟨idle1_11 t h, Bool.eq_false_iff.mpr fun hf => h ((flush1_11 t).mp hf)⟩

end Cert.KernelIdeal.Hand

end
-- ==== Proof.KernelIdeal.MainObligation.lean ====
/-
  The second pallas_call (`main`): the pipeline library's obligation for its body, discharged at a generic grid point by
  the three cases of `MainBody`, and the invariant's two ends.
-/
module

public import proofs.«01_k».proof.Proof.KernelIdeal.MainData

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- A live window's buffer is left at what the proof data says. -/
theorem leaves_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

/-- The inputs' buffers, live at every point, are left at their blocks. -/
theorem leaves_in (c : Dev nD) (t : Fin cfg1.N) :
    bodyPost1 V c t = iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ (dat1 V c).leavesExact 8 t
    ∗ (dat1 V c).leavesExact 9 t
    ∗ (dat1 V c).leavesExact 10 t
    ∗ (dat1 V c).leavesExact 11 t) := by
  unfold bodyPost1
  rw [leaves_live V c 0 t rfl, after1_0, leaves_live V c 1 t rfl, after1_1, leaves_live V c 2 t rfl, after1_2, leaves_live V c 3 t rfl, after1_3, leaves_live V c 4 t rfl, after1_4, leaves_live V c 5 t rfl, after1_5, leaves_live V c 6 t rfl, after1_6, leaves_live V c 7 t rfl, after1_7]

set_option maxHeartbeats 4000000 in
/-- The body at any point takes the one to the other: by the point's place in its run of sixteen. -/
theorem sound_body1 (c : Dev nD) (t : Fin cfg1.N) :
    bodyPre1 V c t ⊢ wp frame (wpE (defs₀ (F := F)) Variants.none c none) Set.univ (bodyAt1 t) (fun _ => bodyPost1 V c t) := by
  rw [leaves_in]
  unfold bodyPre1 bodyAt1
  simp only [before1_0, before1_1, before1_2, before1_3, before1_4, before1_5, before1_6, before1_7]
  rw [show (dat1 V c).owesAt () t.succ = (dat1 V c).owesAt () t.castSucc from rfl,
    show (dat1 V c).Φ t.succ = PhiS V c (t.val + 1) t.isLt from rfl, PhiS_succ, Phi1_castSucc]
  by_cases h1 : t.val % 16 = 15
  · have h0 : ¬ t.val % 16 = 0 := by omega
    rw [leaves_live V c 8 t (live1_8 t h1), after1_8, leaves_live V c 9 t (live1_9 t h1), after1_9, leaves_live V c 10 t (live1_10 t h1), after1_10, leaves_live V c 11 t (live1_11 t h1), after1_11]
    rw [PhiS_pos V c _ _ (fun hz => h0 (by rw [hz])), accAt_next V c t h0]
    unfold besides
    iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (main_last c (grid1.coords t) _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) _ Set.univ _
      (fun h => h0 ((isFirst_iff t).mp h)) ((isLast_iff t).mpr h1))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [A B C D G H HS Hg]
    · isplitr [Hg]
      · isplitl [A]; · iexact A
        isplitl [B]; · iexact B
        isplitl [C]; · iexact C
        isplitl [D]; · iexact D
        isplitl [G]; · iexact G
        isplitl [H]; · iexact H
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dat1 V c) 8 t (idle1 8 (by decide) t h1).1 (idle1 8 (by decide) t h1).2, Dat.leavesExact_idle (dat1 V c) 9 t (idle1 9 (by decide) t h1).1 (idle1 9 (by decide) t h1).2, Dat.leavesExact_idle (dat1 V c) 10 t (idle1 10 (by decide) t h1).1 (idle1 10 (by decide) t h1).2, Dat.leavesExact_idle (dat1 V c) 11 t (idle1 11 (by decide) t h1).1 (idle1 11 (by decide) t h1).2]
    by_cases h0 : t.val % 16 = 0
    · refine (sep_mono (PhiS_any V c _ _) .rfl).trans ?_
      rw [PhiA1_eq, accAt_first V c t h0]
      unfold besides
      iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (main_first c (grid1.coords t) _ _ _ _ _ _ _ _ _ _ _ _ _ _ _ _ _ _ _ _ _ _ _ _ _ _
        (iblk1 V c 0 t) (iblk1 V c 1 t) (iblk1 V c 2 t) Set.univ _
        ((isFirst_iff t).mpr h0) (fun h => h1 ((isLast_iff t).mp h)))
      isplitl [H0]; · iexact H0
      isplitl [H1]; · iexact H1
      isplitl [H2]; · iexact H2
      isplitl [HS]; · iexact HS
      iintro ⟨H0, H1, H2, HS⟩
      isplitl [A B C D G H HS Hg]
      · isplitr [Hg]
        · isplitl [A]; · iexact A
          isplitl [B]; · iexact B
          isplitl [C]; · iexact C
          isplitl [D]; · iexact D
          isplitl [G]; · iexact G
          isplitl [H]; · iexact H
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
    · rw [PhiS_pos V c _ _ (fun hz => h0 (by rw [hz])), accAt_next V c t h0]
      unfold besides
      iintro ⟨⟨⟨A, B, C, D, G, H, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (main_next c (grid1.coords t) _ _ _ _ _ _ _ _ _ _ _ _ _ _ _ _ _ _ _ _ _ _ _ _ _ _
        (iblk1 V c 0 t) (iblk1 V c 1 t) (iblk1 V c 2 t) _ Set.univ _
        (fun h => h0 ((isFirst_iff t).mp h)) (fun h => h1 ((isLast_iff t).mp h)))
      isplitl [H0]; · iexact H0
      isplitl [H1]; · iexact H1
      isplitl [H2]; · iexact H2
      isplitl [HS]; · iexact HS
      iintro ⟨H0, H1, H2, HS⟩
      isplitl [A B C D G H HS Hg]
      · isplitr [Hg]
        · isplitl [A]; · iexact A
          isplitl [B]; · iexact B
          isplitl [C]; · iexact C
          isplitl [D]; · iexact D
          isplitl [G]; · iexact G
          isplitl [H]; · iexact H
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

/-- The call's body at point `t` is the printed function on that point's staging buffers. -/
theorem defs₀_row1 (t : Fin cfg1.N) :
    defs₀ (F := F) .tc cfg1.body (cfg1.bodyArgs t (cfg1.slots t)) = bodyAt1 t := by
  unfold defs₀; rw [Defs.onTc_tc]

/-- The pipeline library's obligation for the body, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-! ## The invariant's ends -/

/-- The launch state is the invariant before the first point. -/
theorem hin1 (c : Dev nD) : Pipeline.ΦA spec1 c ⊢ (dat1 V c).Φ 0 := .rfl

/-- The invariant after the last point gives the launch state back. -/
theorem hout1 (c : Dev nD) : (dat1 V c).Φ (Fin.last cfg1.N) ⊢ Pipeline.ΦA spec1 c := by
  rw [show (dat1 V c).Φ (Fin.last cfg1.N) = PhiS V c cfg1.N le_rfl from rfl]
  exact PhiS_any V c _ _

end Cert.KernelIdeal.Hand

end
-- ==== Proof.KernelIdeal.Run.lean ====
/-
  The whole program's run: @main as host stretches and the two calls, the two calls' segment records over `Prep`'s and
  `MainObligation`'s proof data, and what every execution ends with: the four results at named contents, the arguments as
  launched, every semaphore counter at zero.
-/
module

public import proofs.«01_k».proof.Proof.KernelIdeal.Prep
public import proofs.«01_k».proof.Proof.KernelIdeal.MainObligation
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! ## The frame with the results, given the calls' records -/

-- `θ_run_regions_kit_dev_sems`'s implicit arguments are found by unifying its conclusion with this one, which takes unfolding
-- plain definitions in a metavariable's type
set_option backward.isDefEq.respectTransparency.types false in
/-- The conditional frame with the results kept: given a segment record for each of the two calls, entered from the buffers at
    the contents before the call and left at the contents after it, every execution of @main from memory `m` with zero counters
    ends with the four results at their contents after the last host operations (`V9`), every argument as launched and every
    semaphore counter at zero. -/
theorem frame_values {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD,
      r.2.mem ((c.tc : Thread nD τ).loc main_v26) = V9 m outs c main_v26
      ∧ r.2.mem ((c.tc : Thread nD τ).loc main_v28) = V9 m outs c main_v28
      ∧ r.2.mem ((c.tc : Thread nD τ).loc main_v30) = V9 m outs c main_v30
      ∧ r.2.mem ((c.tc : Thread nD τ).loc main_v32) = V9 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v26) = V9 m outs c main_v26 ∧ s.mem ((c.tc : Thread nD τ).loc main_v28) = V9 m outs c main_v28 ∧ s.mem ((c.tc : Thread nD τ).loc main_v30) = V9 m outs c main_v30 ∧ s.mem ((c.tc : Thread nD τ).loc main_v32) = V9 m outs c main_v32 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        h (Proc.devRef .tc main_v28) (Finset.mem_filter.mpr ⟨StableHlo.devRef_mem_tcRefs main_v28, by decide⟩),
        h (Proc.devRef .tc main_v30) (Finset.mem_filter.mpr ⟨StableHlo.devRef_mem_tcRefs main_v30, by decide⟩),
        h (Proc.devRef .tc main_v32) (Finset.mem_filter.mpr ⟨StableHlo.devRef_mem_tcRefs main_v32, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c)⟩
    · iexact HSI

/-! ## What the two calls leave -/

local notation "𝕄" => MT nD τ sig Unit (Elt F) ℕ (UR sig nD τ) ℕ

/-- Core `c`'s buffers after the first call. -/
def W2 (c : Dev nD) : Valuation τ sig (Elt F) := Pipeline.afterRegion (dat0 (V1 m) c) (V1 m c)

/-- The first call's result alone, as the unknown the host stretches' contents are written over. -/
def outsA : Outs (F := F) := fun _ r c => W2 m c r

/-- Core `c`'s buffers when the second call is entered. -/
def W7 (c : Dev nD) : Valuation τ sig (Elt F) := V7 m (outsA m) c

/-- Core `c`'s buffers after the second call. -/
def W8 (c : Dev nD) : Valuation τ sig (Elt F) := Pipeline.afterRegion (dat1 (W7 m) c) (W7 m c)

/-- What both calls leave. -/
def outsB : Outs (F := F) := fun j r c => match j with
  | 2 => W2 m c r
  | _ => W8 m c r

/-- The second call's entry contents do not depend on what it leaves. -/
theorem W7_eq (c : Dev nD) : W7 m c = V7 m (outsB m) c := rfl

/-- An unscoped buffer the TensorCore names is one of its references. -/
theorem mem_ucRefs_devRef {b : DevRef τ sig} (hb : b ∈ Pipeline.ucRefs τ sig) : ∃ r : Ref sig .tc, Proc.devRef .tc r = b := by
  obtain ⟨r, -, rfl⟩ := Finset.mem_map.mp (Finset.mem_filter.mp hb).1
  exact ⟨r, rfl⟩

/-- The first call changes its result's array only. -/
theorem W2_eq (c : Dev nD) : ∀ b ∈ Pipeline.ucRefs τ sig, W2 m c b = V2 m (outsB m) c b := by
  intro b hb
  obtain ⟨r, rfl⟩ := mem_ucRefs_devRef hb
  by_cases h : r = main_v3
  · subst h
    exact (Function.update_self (β := fun b : DevRef τ sig => b.ty.Contents (Elt F)) _ _ _).symm
  · rw [V2_of m (outsB m) c r (by simpa using h)]
    refine Pipeline.afterRegion_keeps (dat0 (V1 m) c) (V1 m c) launch0.win.arr_inj (fun w => A0_eq (V1 m) c w) r (fun w hw => ?_)
    fin_cases w
    · rfl
    · rfl
    · exact absurd hw.symm h

/-- The second call changes its four results' arrays only. -/
theorem W8_eq (c : Dev nD) : ∀ b ∈ Pipeline.ucRefs τ sig, W8 m c b = V8 m (outsB m) c b := by
  intro b hb
  obtain ⟨r, rfl⟩ := mem_ucRefs_devRef hb
  by_cases h : r ∈ ([main_v24_0, main_v24_1, main_v24_2, main_v24_3] : List (Ref sig .tc))
  · simp only [List.mem_cons, List.not_mem_nil, or_false] at h
    rcases h with rfl | rfl | rfl | rfl
    · unfold V8
      rw [Function.update_of_ne (StableHlo.devRef_ne_of_ne (by decide)), Function.update_of_ne (StableHlo.devRef_ne_of_ne (by decide)), Function.update_of_ne (StableHlo.devRef_ne_of_ne (by decide)), Function.update_self]
      rfl
    · unfold V8
      rw [Function.update_of_ne (StableHlo.devRef_ne_of_ne (by decide)), Function.update_of_ne (StableHlo.devRef_ne_of_ne (by decide)), Function.update_self]
      rfl
    · unfold V8
      rw [Function.update_of_ne (StableHlo.devRef_ne_of_ne (by decide)), Function.update_self]
      rfl
    · unfold V8
      rw [Function.update_self]
      rfl
  · rw [V8_of m (outsB m) c r h]
    refine Pipeline.afterRegion_keeps (dat1 (W7 m) c) (W7 m c) launch1.win.arr_inj (fun w => A1_eq (W7 m) c w) r (fun w hw => ?_)
    have hn : ∀ w : Fin cfg1.W, (cfg1.win w).isOut = true → Pipeline.arrRef cfg1.spec w ∈ ([main_v24_0, main_v24_1, main_v24_2, main_v24_3] : List (Ref sig .tc)) := by
      decide
    by_contra hc
    exact h (hw ▸ hn w (by simpa using hc))

/-! ## The calls' segment records -/

/-- The two calls' proof data. -/
def pdats (p : Fin 2) (c : Dev nD) : Dat τ (Elt F) Unit ℕ (UR sig nD τ) ℕ (cfgs p) c := match p with
  | ⟨0, _⟩ => dat0 (V1 m) c
  | ⟨1, _⟩ => dat1 (W7 m) c

open Classical in
/-- Every TensorCore counter may be waited on, at one level. -/
def L : GSem nD τ sig → Finset Unit := fun g => if g.1.2 = .tc then {()} else ∅
/-- Every counter's level is zero. -/
def lv : GSem nD τ sig → Unit → ℕ := fun _ _ => 0

/-- Counters of other processors are not waited on. -/
theorem L_off (g : GSem nD τ sig) (h : g.1.2 ≠ .tc) : L g = ∅ := if_neg h
/-- Every counter of the TensorCore may be waited on. -/
theorem mem_L (c : Dev nD) (s : SemLoc sig) : () ∈ L (((c : Thread nD τ), s) : GSem nD τ sig) := by
  unfold L; rw [if_pos rfl]; exact Finset.mem_singleton_self _

/-- What rides beside the buffers: the core owes nothing, and its generator register. -/
def E (_ : Fin 3) (c : Dev nD) : sProp 𝕄 :=
  iprop((∃ Wd, owes (c : Thread nD τ) (0 : CellTallies nD τ sig Unit) Wd) ∗ (∃ r, prngReg c r) ∗ emp)

/-- No debt is owed at any level. -/
theorem cut (p : Fin 2) : Pipeline.LevelCut (pcfgs (F := F)) adm () L lv p (fun _ => (0 : CellTallies nD τ sig Unit)) (fun _ => 0) where
  hι c w s := mem_L c _
  hιb c w s := le_rfl
  hD c g i h := absurd h (lt_irrefl 0)

/-- The first call's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl)
    (fun c => (dat0 (V1 m) c).share_full fun _ => rfl) (fun _ => .rfl) (fun _ => .rfl)
    (fun _ => 0) (cut 0) (fun _ => iprop(emp)) (V1 m) (fun c w => A0_eq (V1 m) c w)

/-- The second call's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W7 m) c).loose) (fun _ _ => rfl) (fun _ => rfl)
    (fun c => (dat1 (W7 m) c).share_full fun _ => rfl) (fun c => hin1 (W7 m) c) (fun c => hout1 (W7 m) c)
    (fun _ => 0) (cut 1) (fun _ => iprop(emp)) (W7 m) (fun c w => A1_eq (W7 m) c w)

/-- The first call's arrays are among the unscoped buffers. -/
theorem arrs0 : Pipeline.arrRefs (τ := τ) (pcfgs (F := F) 0).spec ⊆ Pipeline.ucRefs τ sig :=
  Pipeline.arrRefs_sub_ucRefs _ (show ∀ w, (Pipeline.arrRef spec0 w).isScoped = false from by decide)
/-- The second call's arrays are among the unscoped buffers. -/
theorem arrs1 : Pipeline.arrRefs (τ := τ) (pcfgs (F := F) 1).spec ⊆ Pipeline.ucRefs τ sig :=
  Pipeline.arrRefs_sub_ucRefs _ (show ∀ w, (Pipeline.arrRef spec1 w).isScoped = false from by decide)

/-- The first call is entered from the buffers at `V1`, -/
theorem R0_pre (c : Dev nD) :
    iprop(StableHlo.held (c : Thread nD τ) (Pipeline.ucRefs τ sig) (V1 m c) ∗ E (F := F) 0 c) ⊢ (R0 m).pre c := by
  unfold R0 E
  exact RegionSeg.ofHeldIn_pre (pcs := pcfgs (F := F)) (p := 0) (D := fun _ => 0) (X := fun c => iprop(∃ r, prngReg c r))
    (R := fun _ => iprop(emp)) (W := V1 m) arrs0 c
/-- and left with them at `W2`. -/
theorem R0_post' (c : Dev nD) :
    (R0 m).post c ⊢ iprop(StableHlo.held (c : Thread nD τ) (Pipeline.ucRefs τ sig) (W2 m c) ∗ E (F := F) 1 c) := by
  unfold R0 E W2
  exact RegionSeg.ofHeldIn_post (pcs := pcfgs (F := F)) (p := 0) arrs0 c
/-- The same with the contents as one update of those before. -/
theorem R0_post (c : Dev nD) :
    (R0 m).post c ⊢ iprop(StableHlo.held (c : Thread nD τ) (Pipeline.ucRefs τ sig) (V2 m (outsB m) c) ∗ E (F := F) 1 c) := by
  rw [← StableHlo.held_congr (c : Thread nD τ) (W2_eq m c)]
  exact R0_post' m c
/-- The second call is entered from the buffers at `W7`, -/
theorem R1_pre (c : Dev nD) :
    iprop(StableHlo.held (c : Thread nD τ) (Pipeline.ucRefs τ sig) (V7 m (outsB m) c) ∗ E (F := F) 1 c) ⊢ (R1 m).pre c := by
  rw [← W7_eq m c]
  unfold R1 E
  exact RegionSeg.ofHeldIn_pre (pcs := pcfgs (F := F)) (p := 1) (D := fun _ => 0) (X := fun c => iprop(∃ r, prngReg c r))
    (R := fun _ => iprop(emp)) (W := W7 m) arrs1 c
/-- and left with them at `W8`. -/
theorem R1_post' (c : Dev nD) :
    (R1 m).post c ⊢ iprop(StableHlo.held (c : Thread nD τ) (Pipeline.ucRefs τ sig) (W8 m c) ∗ E (F := F) 2 c) := by
  unfold R1 E W8
  exact RegionSeg.ofHeldIn_post (pcs := pcfgs (F := F)) (p := 1) arrs1 c
/-- The same with the contents as updates of those before. -/
theorem R1_post (c : Dev nD) :
    (R1 m).post c ⊢ iprop(StableHlo.held (c : Thread nD τ) (Pipeline.ucRefs τ sig) (V8 m (outsB m) c) ∗ E (F := F) 2 c) := by
  rw [← StableHlo.held_congr (c : Thread nD τ) (W8_eq m c)]
  exact R1_post' m c

/-- The launch makes what rides beside the buffers. -/
theorem launch_rest (ρ : Dev nD → PrngReg) (c : Dev nD) :
    (iprop(unscopedSems0 c ∗ owes (c : Thread nD τ) (0 : CellTallies nD τ sig Unit) ∅
        ∗ Pipeline.launchCred (fun _ => 0) c ∗ prngReg c (ρ c) ∗ emp) : sProp 𝕄) ⊢ E (F := F) 0 c := by
  unfold E
  iintro ⟨-, HO, -, Hp, -⟩
  isplitl [HO]; · iexists _; iexact HO
  isplitl [Hp]; · iexists _; iexact Hp
  iempintro

/-! ## The run -/

/-- Every execution of @main from memory `m` with zero counters ends with the four results at `V9`'s contents, every
    argument as launched and every semaphore counter at zero. -/
theorem run_values (ρ : Dev nD → PrngReg) :
    θ_run defs (onTc (τ := τ) (main (F := F))) ⟨m, fun _ => 0, ρ⟩ (fun r => (∀ c : Dev nD,
      r.2.mem ((c.tc : Thread nD τ).loc main_v26) = V9 m (outsB m) c main_v26
      ∧ r.2.mem ((c.tc : Thread nD τ).loc main_v28) = V9 m (outsB m) c main_v28
      ∧ r.2.mem ((c.tc : Thread nD τ).loc main_v30) = V9 m (outsB m) c main_v30
      ∧ r.2.mem ((c.tc : Thread nD τ).loc main_v32) = V9 m (outsB m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine frame_values m emb₁ () Variants.none L lv L_off ρ (outsB m) (pdats m) (fun _ => 0) (fun _ => iprop(emp))
    (initOf (Pipeline.cells cfgs cellOf_inj) (Pipeline.launchToks cfgs cellOf_inj)) ?_ E ?_ ?_ (R0 m) ?_ ?_ (R1 m) ?_ ?_
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨H, -⟩; imodintro
    iapply (show _ ⊢ bigSep Finset.univ (E (F := F) 0) from bigSep_mono fun c _ => launch_rest ρ c) $$ H
  · intro c; unfold E; iintro ⟨HO, -⟩; iexact HO
  · exact R0_pre m
  · exact R0_post m
  · exact R1_pre m
  · exact R1_post m

end Cert.KernelIdeal.Hand

end
-- ==== Proof.Math.lean ====
/-
  What both programs compute, as plain mathematics over the extended reals.

  The arguments are functions of their coordinates (`Args`). The gradient is a sum over all tokens, a mask bit picks which
  weights are kept, and the four results are a maximum, a row sum, a minimum and a sum over the 32 × 32 blocks of the
  weight matrix. No tiling, padding or accumulation appears here.
-/
module

public import Idealize.ShloMosaic.Lib.Pointwise
public import Idealize.ShloMosaic.Lib.Pipeline.ValueKit.Acc

@[expose] public section

noncomputable section

open Idealize.ShloMosaic

namespace Cert.Scores

/-- The seven arguments as functions of their coordinates: activations and their scales, output gradients and their
    scales, weights and their column scales, and the packed mask of eight columns to a byte. -/
@[ext] structure Args where
  x : Fin 8 → Fin 2048 → Fin 4096 → EReal
  xs : Fin 8 → Fin 2048 → EReal
  dy : Fin 8 → Fin 2048 → Fin 14336 → EReal
  ds : Fin 8 → Fin 2048 → EReal
  w : Fin 4096 → Fin 14336 → EReal
  ws : Fin 14336 → EReal
  mask : Fin 4096 → Fin 1792 → BitVec 8

/-- Row `r` of block row `b`. -/
def row (b : Fin 128) (r : Fin 32) : Fin 4096 := ⟨b.val * 32 + r.val, by omega⟩

/-- Column `q` of block column `c`. -/
def col (c : Fin 448) (q : Fin 32) : Fin 14336 := ⟨c.val * 32 + q.val, by omega⟩

/-- The bit `p` of a mask byte, as a one-bit word. -/
def bit (b : BitVec 8) (p : Nat) : BitVec 1 := BitVec.ofBool (b.getLsbD p)

namespace Args

variable (A : Args)

/-- Whether the mask keeps weight `(i, j)`: bit `j % 8` of byte `j / 8` of row `i`. -/
def on (i : Fin 4096) (j : Fin 14336) : BitVec 1 := bit (A.mask i ⟨j.val / 8, by omega⟩) (j.val % 8)

/-- The gradient of weight `(i, j)`: the scaled activations against the scaled output gradients, over all tokens. -/
def grad (i : Fin 4096) (j : Fin 14336) : EReal :=
  ∑ a : Fin 8, ∑ s : Fin 2048, (A.x a s i * A.xs a s) * (A.dy a s j * A.ds a s)

/-- The gradient's size where the weight is off, zero where it is on. -/
def grow (i : Fin 4096) (j : Fin 14336) : EReal := Scalar.select (A.on i j) 0 (max (A.grad i j) (-A.grad i j))

/-- The weight's size times its column scale. -/
def size (i : Fin 4096) (j : Fin 14336) : EReal := max (A.w i j) (-A.w i j) * A.ws j

/-- First result: the largest growth score of a block. -/
def growMax (b : Fin 128) (c : Fin 448) : EReal :=
  Finset.univ.fold max ⊥ fun p : Fin 32 × Fin 32 => A.grow (row b p.1) (col c p.2)

/-- Second result: the sum of one row's growth scores within a block column. -/
def growSum (i : Fin 4096) (c : Fin 448) : EReal := ∑ q : Fin 32, A.grow i (col c q)

/-- The smallest kept weight size of a block, `⊤` when none is kept. -/
def keepMin (b : Fin 128) (c : Fin 448) : EReal :=
  Finset.univ.fold min ⊤ fun p : Fin 32 × Fin 32 => Scalar.select (A.on (row b p.1) (col c p.2)) (A.size (row b p.1) (col c p.2)) ⊤

/-- Third result: the smallest kept weight size of a block, with an infinite value replaced by zero. -/
def dropMin (b : Fin 128) (c : Fin 448) : EReal :=
  if max (A.keepMin b c) (-A.keepMin b c) = ⊤ then 0 else A.keepMin b c

/-- Fourth result: the sum of the kept weight sizes of a block. -/
def dropSum (b : Fin 128) (c : Fin 448) : EReal :=
  ∑ r : Fin 32, ∑ q : Fin 32, Scalar.select (A.on (row b r) (col c q)) (A.size (row b r) (col c q)) 0

end Args

/-! ### The two infinite constants -/

/-- The word of minus infinity reads as `⊥`. -/
theorem ofBits_neg_inf : Ideal.ofBits .f32 0xFF800000#32 = ⊥ := by simp [Ideal.ofBits, Ideal.ieee]

/-- The word of infinity reads as `⊤`. -/
theorem ofBits_inf : Ideal.ofBits .f32 0x7F800000#32 = ⊤ := by simp [Ideal.ofBits, Ideal.ieee]

/-! ### Folds -/

/-- A maximum over columns of maxima over rows is the maximum over all pairs. -/
theorem fold_max_nest {m n : Nat} (f : Fin m → Fin n → EReal) :
    (Finset.univ.fold max ⊥ fun q : Fin n => Finset.univ.fold max ⊥ fun r : Fin m => f r q)
      = Finset.univ.fold max ⊥ fun p : Fin m × Fin n => f p.1 p.2 := by
  change (Finset.univ.sup fun q : Fin n => Finset.univ.sup fun r : Fin m => f r q)
    = (Finset.univ : Finset (Fin m × Fin n)).sup fun p => f p.1 p.2
  rw [← Finset.univ_product_univ, Finset.sup_product_right]

/-- The negated maximum of negated values is the minimum. -/
theorem neg_fold_max {ι : Type} (s : Finset ι) (f : ι → EReal) :
    -(s.fold max ⊥ fun i => -f i) = s.fold min ⊤ f := by
  have h := Finset.fold_hom (op := max) (op' := min) (m := fun x : EReal => -x) (b := ⊥) (f := fun i => -f i) (s := s)
    fun x y => (EReal.min_neg_neg x y).symm
  simp only [neg_neg, EReal.neg_bot] at h
  exact h.symm

/-- Negating both branches of a choice. -/
theorem select_neg_bot (p : BitVec 1) (a : EReal) : Scalar.select p (0 - a) ⊥ = -Scalar.select p a ⊤ := by
  unfold Scalar.select
  split
  · exact zero_sub a
  · exact EReal.neg_top.symm

/-- Multiplying a choice between a value and zero multiplies the value. -/
theorem select_mul (p : BitVec 1) (a b : EReal) : Scalar.select p a 0 * b = Scalar.select p (a * b) 0 := by
  unfold Scalar.select
  split
  · rfl
  · exact zero_mul b

/-! ### Sums against an indicator of 32-wide segments -/

/-- The sum of 1024 values, each against the indicator "the column lies in segment `c`", is the sum over that segment. -/
theorem sum_segment (f : Fin 1024 → EReal) (c : Fin 32) :
    ∑ k : Fin 1024, f k * (if k.val / 32 = c.val then 1 else 0) = ∑ q : Fin 32, f ⟨c.val * 32 + q.val, by omega⟩ := by
  rw [← Equiv.sum_comp (finProdFinEquiv (m := 32) (n := 32)) (fun k : Fin 1024 => f k * (if k.val / 32 = c.val then 1 else 0)),
    Fintype.sum_prod_type, Finset.sum_eq_single c]
  · refine Finset.sum_congr rfl fun q _ => ?_
    have hv : (finProdFinEquiv (c, q) : Fin (32 * 32)).val = c.val * 32 + q.val := by
      show q.val + 32 * c.val = _; omega
    have h : (finProdFinEquiv (c, q) : Fin (32 * 32)).val / 32 = c.val := by omega
    rw [if_pos h, mul_one]
    exact congrArg f (Fin.ext hv)
  · intro a _ ha
    refine Finset.sum_eq_zero fun q _ => ?_
    have hv : (finProdFinEquiv (a, q) : Fin (32 * 32)).val = a.val * 32 + q.val := by
      show q.val + 32 * a.val = _; omega
    have h : ¬ (finProdFinEquiv (a, q) : Fin (32 * 32)).val / 32 = c.val := fun e => ha (Fin.ext (by omega))
    rw [if_neg h, mul_zero]
  · intro h; exact absurd (Finset.mem_univ c) h

/-- The sum of 128 values, each against the indicator "byte `k` holds column `j`", is the value at byte `j / 8`. -/
theorem sum_byte (f : Fin 128 → EReal) (j : Fin 1024) :
    ∑ k : Fin 128, f k * (if j.val / 8 = k.val then 1 else 0) = f ⟨j.val / 8, by omega⟩ := by
  rw [Finset.sum_eq_single (⟨j.val / 8, by omega⟩ : Fin 128)]
  · rw [if_pos rfl, mul_one]
  · intro k _ hk
    rw [if_neg fun e => hk (Fin.ext e.symm), mul_zero]
  · intro h; exact absurd (Finset.mem_univ _) h

/-- Sixteen stretches of 1024 tokens are the eight batches of 2048 tokens. -/
theorem sum_tokens (f : Nat → EReal) :
    ∑ s : Fin 16, ∑ k : Fin 1024, f (s.val * 1024 + k.val) = ∑ a : Fin 8, ∑ b : Fin 2048, f (a.val * 2048 + b.val) := by
  rw [Fin.sum_univ_univ_mul_add 16 1024 f, Fin.sum_univ_univ_mul_add 8 2048 f]

/-! ### Mask bits -/

/-- Shifting a byte (widened to 32 bits) right by `p < 8` and keeping the lowest bit tests bit `p`. -/
theorem bit_of_shift (u : ArithUnit) (b : BitVec 8) (p : Fin 8) :
    IntOp.cmpi .eq (IntOp.andi (IntOp.shrsi u (b.setWidth 32) (BitVec.ofNat 32 p.val)) 1#32) 1#32 = bit b p.val := by
  revert b p
  cases u <;> decide +kernel

/-- A byte read as a real number and converted to a 32-bit integer is the byte widened. -/
theorem fptosi_byte (b : BitVec 8) :
    Ideal.fptosi 32 ((((b.setWidth 32).toInt : ℝ)) : EReal) = b.setWidth 32 := by
  have h : ((b.setWidth 32).toInt : ℝ) = (b.toNat : ℝ) := by
    have e : (b.setWidth 32).toInt = (b.toNat : Int) := by revert b; decide +kernel
    rw [e]; simp
  have hb : b.toNat < 256 := b.isLt
  have hw : BitVec.ofInt 32 (b.toNat : Int) = b.setWidth 32 := by clear h hb; revert b; decide +kernel
  rw [h, Ideal.fptosi, Ideal.toIntClamped_coe, if_pos (Nat.cast_nonneg _), Int.floor_natCast, ← hw]
  congr 1
  omega

end Cert.Scores
-- ==== Proof.KernelIdeal.HostValues.lean ====
/-
  What the kernel's host lines leave in the buffers its two calls read: the reshaped arguments, and the two indicator
  matrices — column `j` lies in byte `k` (128 × 1024), column `k` lies in segment `c` (1024 × 32).
-/
module

public import proofs.«01_k».proof.Proof.KernelIdeal.Run
public import proofs.«01_k».proof.Proof.Math

@[expose] public section

set_option maxRecDepth 16384

noncomputable section

open Idealize.ShloMosaic Idealize.ShloMosaic.TcCoe Cert.KernelIdeal
open Idealize.ShloMosaic.StableHlo (after)
open Cert.KernelIdeal.Gen (hostOps0 hostOps1 hostOps1_1 hostOps1_2 hostOps1_3 hostOps1_4 hostOps2)

namespace Cert.KernelIdeal.Hand

/-- The sign of a 32-bit word. -/
abbrev sgn (x : BitVec 32) : BitVec 32 := if x = 0 then 0 else if x.msb = true then -1 else 1

/-- Floor division of a column number by 8, as the host spells it (the correction for signs never applies). -/
theorem floor8 : ∀ j : Fin 1024,
    Scalar.select (IntOp.andi (IntOp.cmpi .ne (sgn (BitVec.ofNat 32 j.val)) (sgn 8#32))
        (IntOp.cmpi .ne (IntOp.remsi .host (BitVec.ofNat 32 j.val) 8#32) 0#32))
      (IntOp.subi (IntOp.divsi .host (BitVec.ofNat 32 j.val) 8#32) 1#32) (IntOp.divsi .host (BitVec.ofNat 32 j.val) 8#32)
      = BitVec.ofNat 32 (j.val / 8) := by
  decide +kernel

/-- Floor division of a column number by 32, as the host spells it. -/
theorem floor32 : ∀ j : Fin 1024,
    Scalar.select (IntOp.andi (IntOp.cmpi .ne (sgn (BitVec.ofNat 32 j.val)) (sgn 32#32))
        (IntOp.cmpi .ne (IntOp.remsi .host (BitVec.ofNat 32 j.val) 32#32) 0#32))
      (IntOp.subi (IntOp.divsi .host (BitVec.ofNat 32 j.val) 32#32) 1#32) (IntOp.divsi .host (BitVec.ofNat 32 j.val) 32#32)
      = BitVec.ofNat 32 (j.val / 32) := by
  decide +kernel

/-- A comparison of two small numbers, read as a real number, is the indicator of their equality. -/
theorem indicator {φ : FTy} (a b : Nat) (ha : a < 2 ^ 32) (hb : b < 2 ^ 32) :
    FloatOps.uitofp (F := Ideal) φ (IntOp.cmpi .eq (BitVec.ofNat 32 a) (BitVec.ofNat 32 b)) = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [h, beq_eq_false_iff_ne.mpr hne]

variable (W : Valuation τ sig (Elt Ideal))

/-- The row of column numbers. -/
theorem ops1_v5 (j : Fin 1024) : (after (hostOps1 (F := Ideal)) W (Proc.devRef .tc main_v5) : IVec S1x1024 32) (ix2 0 j) = BitVec.ofNat 32 j.val := by
  simp only [hostOps1]
  after_results_simp
  pointwise

/-- The divisor 8. -/
theorem ops1_c (j : S_.Idx) : (after (hostOps1 (F := Ideal)) W (Proc.devRef .tc main_c) : IVec S_ 32) j = 8#32 := by
  simp only [hostOps1]
  after_results_simp
  pointwise

/-- The byte of each column: the column number divided by 8. -/
theorem ops1_1_v6 (h5 : ∀ j, (W (Proc.devRef .tc main_v5) : IVec S1x1024 32) (ix2 0 j) = BitVec.ofNat 32 j.val)
    (hc : ∀ j, (W (Proc.devRef .tc main_c) : IVec S_ 32) j = 8#32) (j : Fin 1024) :
    (after (hostOps1_1 (F := Ideal)) W (Proc.devRef .tc main_v6) : IVec S1x1024 32) (ix2 0 j) = BitVec.ofNat 32 (j.val / 8) := by
  simp only [hostOps1_1, StableHlo.TRef.binary, StableHlo.TRef.nullary, StableHlo.TRef.ternary, StableHlo.TRef.unary,
    StableHlo.TRef.toBuf, StableHlo.TRef.ofBuf, cast_eq]
  after_results_simp
  pointwise [h5, hc, id_eq]
  exact floor8 j

/-- The segment of each column: the column number divided by 32. -/
theorem ops1_3_v15 (h5 : ∀ j, (W (Proc.devRef .tc main_v14) : IVec S1024x1 32) (ix2 j 0) = BitVec.ofNat 32 j.val)
    (hc : ∀ j, (W (Proc.devRef .tc main_c_0) : IVec S_ 32) j = 32#32) (j : Fin 1024) :
    (after (hostOps1_3 (F := Ideal)) W (Proc.devRef .tc main_v15) : IVec S1024x1 32) (ix2 j 0) = BitVec.ofNat 32 (j.val / 32) := by
  simp only [hostOps1_3, StableHlo.TRef.binary, StableHlo.TRef.nullary, StableHlo.TRef.ternary, StableHlo.TRef.unary,
    StableHlo.TRef.toBuf, StableHlo.TRef.ofBuf, cast_eq]
  after_results_simp
  pointwise [h5, hc, id_eq]
  exact floor32 j

/-- The first indicator matrix: column `j` lies in byte `k`. -/
theorem ops1_2_v12 (h6 : ∀ j, (W (Proc.devRef .tc main_v6) : IVec S1x1024 32) (ix2 0 j) = BitVec.ofNat 32 (j.val / 8))
    (k : Fin 128) (j : Fin 1024) :
    (after (hostOps1_2 (F := Ideal)) W (Proc.devRef .tc main_v12) : FVec Ideal S128x1024 .bf16) (ix2 k j) = (if j.val / 8 = k.val then 1 else 0 : EReal) := by
  simp only [hostOps1_2]
  after_results_simp
  pointwise [h6]
  exact indicator _ _ (by omega) (by omega)

/-- The column of column numbers. -/
theorem ops1_2_v14 (j : Fin 1024) : (after (hostOps1_2 (F := Ideal)) W (Proc.devRef .tc main_v14) : IVec S1024x1 32) (ix2 j 0) = BitVec.ofNat 32 j.val := by
  simp only [hostOps1_2]
  after_results_simp
  pointwise

/-- The divisor 32. -/
theorem ops1_2_c_0 (j : S_.Idx) : (after (hostOps1_2 (F := Ideal)) W (Proc.devRef .tc main_c_0) : IVec S_ 32) j = 32#32 := by
  simp only [hostOps1_2]
  after_results_simp
  pointwise

/-- The second indicator matrix: column `k` lies in segment `c`. -/
theorem ops1_4_v21 (h15 : ∀ j, (W (Proc.devRef .tc main_v15) : IVec S1024x1 32) (ix2 j 0) = BitVec.ofNat 32 (j.val / 32))
    (k : Fin 1024) (c : Fin 32) :
    (after (hostOps1_4 (F := Ideal)) W (Proc.devRef .tc main_v21) : FVec Ideal S1024x32 .f32) (ix2 k c) = (if k.val / 32 = c.val then 1 else 0 : EReal) := by
  simp only [hostOps1_4]
  after_results_simp
  pointwise [h15]
  exact indicator _ _ (by omega) (by omega)

/-- The output gradients' scales, one row per token. -/
theorem ops1_4_v22 (n : Fin 16384) :
    (after (hostOps1_4 (F := Ideal)) W (Proc.devRef .tc main_v22) : FVec Ideal S16384x1 .f32) (ix2 n 0)
      = (W (Proc.devRef .tc main_arg3) : FVec Ideal S8x2048 .f32) (ix2 ⟨n.val / 2048, by omega⟩ ⟨n.val % 2048, by omega⟩) := by
  simp only [hostOps1_4]
  after_results_simp
  pointwise

/-- The weights' column scales as a row. -/
theorem ops1_4_v23 (j : Fin 14336) :
    (after (hostOps1_4 (F := Ideal)) W (Proc.devRef .tc main_v23) : FVec Ideal S1x14336 .f32) (ix2 0 j)
      = (W (Proc.devRef .tc main_arg5) : FVec Ideal S14336 .f32) (ix1 j) := by
  simp only [hostOps1_4]
  after_results_simp
  pointwise

/-- The activations, one row per token. -/
theorem ops0_v0 (n : Fin 16384) (i : Fin 4096) :
    (after (hostOps0 (F := Ideal)) W (Proc.devRef .tc main_v0) : FVec Ideal S16384x4096 .fp8e4m3) (ix2 n i)
      = (W (Proc.devRef .tc main_arg0) : FVec Ideal S8x2048x4096 .fp8e4m3) (ix3 ⟨n.val / 2048, by omega⟩ ⟨n.val % 2048, by omega⟩ i) := by
  simp only [hostOps0]
  after_results_simp
  pointwise

/-- The output gradients, one row per token. -/
theorem ops0_v1 (n : Fin 16384) (j : Fin 14336) :
    (after (hostOps0 (F := Ideal)) W (Proc.devRef .tc main_v1) : FVec Ideal S16384x14336 .fp8e5m2) (ix2 n j)
      = (W (Proc.devRef .tc main_arg2) : FVec Ideal S8x2048x14336 .fp8e5m2) (ix3 ⟨n.val / 2048, by omega⟩ ⟨n.val % 2048, by omega⟩ j) := by
  simp only [hostOps0]
  after_results_simp
  pointwise

/-- The activations' scales, one row per token. -/
theorem ops0_v2 (n : Fin 16384) :
    (after (hostOps0 (F := Ideal)) W (Proc.devRef .tc main_v2) : FVec Ideal S16384x1 .f32) (ix2 n 0)
      = (W (Proc.devRef .tc main_arg1) : FVec Ideal S8x2048 .f32) (ix2 ⟨n.val / 2048, by omega⟩ ⟨n.val % 2048, by omega⟩) := by
  simp only [hostOps0]
  after_results_simp
  pointwise

/-- The transposed and flattened block results: block column `c` is lane `c % 32` of slab `c / 32`. -/
theorem ops2_v26 (b : Fin 128) (c : Fin 448) :
    (after (hostOps2 (F := Ideal)) W (Proc.devRef .tc main_v26) : FVec Ideal S128x448 .f32) (ix2 b c)
      = (W (Proc.devRef .tc main_v24_0) : FVec Ideal S14x128x32 .f32) (ix3 ⟨c.val / 32, by omega⟩ b ⟨c.val % 32, by omega⟩) := by
  simp only [hostOps2]
  after_results_simp
  pointwise

/-- The same of the second result, whose first axis is rows. -/
theorem ops2_v28 (i : Fin 4096) (c : Fin 448) :
    (after (hostOps2 (F := Ideal)) W (Proc.devRef .tc main_v28) : FVec Ideal S4096x448 .f32) (ix2 i c)
      = (W (Proc.devRef .tc main_v24_1) : FVec Ideal S14x4096x32 .f32) (ix3 ⟨c.val / 32, by omega⟩ i ⟨c.val % 32, by omega⟩) := by
  simp only [hostOps2]
  after_results_simp
  pointwise

/-- The same of the third result. -/
theorem ops2_v30 (b : Fin 128) (c : Fin 448) :
    (after (hostOps2 (F := Ideal)) W (Proc.devRef .tc main_v30) : FVec Ideal S128x448 .f32) (ix2 b c)
      = (W (Proc.devRef .tc main_v24_2) : FVec Ideal S14x128x32 .f32) (ix3 ⟨c.val / 32, by omega⟩ b ⟨c.val % 32, by omega⟩) := by
  simp only [hostOps2]
  after_results_simp
  pointwise

/-- The same of the fourth result. -/
theorem ops2_v32 (b : Fin 128) (c : Fin 448) :
    (after (hostOps2 (F := Ideal)) W (Proc.devRef .tc main_v32) : FVec Ideal S128x448 .f32) (ix2 b c)
      = (W (Proc.devRef .tc main_v24_3) : FVec Ideal S14x128x32 .f32) (ix3 ⟨c.val / 32, by omega⟩ b ⟨c.val % 32, by omega⟩) := by
  simp only [hostOps2]
  after_results_simp
  pointwise

end Cert.KernelIdeal.Hand
-- ==== Proof.KernelIdeal.Payloads.lean ====
/-
  What one grid point of each call computes, at an element of its block, as sums, maxima and choices of the elements of
  the blocks it reads. The two indicator blocks (`hE`: column `j` lies in byte `k`; `hS`: column `k` lies in segment `c`)
  turn their contractions into a read of one byte and a sum over one segment.
-/
module

public import proofs.«01_k».proof.Proof.Gen.KernelIdeal.Skeleton
public import proofs.«01_k».proof.Proof.Math

@[expose] public section

set_option maxRecDepth 16384

noncomputable section

open Idealize.ShloMosaic Cert.KernelIdeal

namespace Cert.KernelIdeal.Hand

/-- Element `q` of segment `c` on an axis of 1024. -/
abbrev at32 (c q : Fin 32) : Fin 1024 := ⟨c.val * 32 + q.val, by omega⟩

/-- The first call: the block scaled and transposed. -/
theorem prep_apply (v0 : Vec Ideal S512x1024 .fp8e4m3) (v3 : Vec Ideal S512x1 .f32) (i : Fin 1024) (k : Fin 512) :
    Gen.k0_pay1 (F := Ideal) v0 v3 (ix2 i k) = v0 (ix2 k i) * v3 (ix2 k 0) := by
  pointwise [Gen.k0_pay1]

/-- The running product starts at zero. -/
theorem pay1_apply (j : S1024x1024.Idx) : Gen.k1_pay1 (F := Ideal) j = 0 := by
  pointwise [Gen.k1_pay1]

/-- One step of the running product. -/
theorem pay2_apply (v3 : Vec Ideal S1024x1024 .fp8e5m2) (v6 : Vec Ideal S1024x1 .f32) (v11 : Vec Ideal S1024x1024 .f32)
    (v12 : Vec Ideal S1024x1024 .bf16) (i j : Fin 1024) :
    Gen.k1_pay2 (F := Ideal) v3 v6 v11 v12 (ix2 i j)
      = v11 (ix2 i j) + ∑ k : Fin 1024, v12 (ix2 i k) * (v3 (ix2 k j) * v6 (ix2 k 0)) := by
  pointwise [Gen.k1_pay2, dot_S1024x1024_S1024x1024_S1024x1024_1_0_0_1_n_n]

/-- The lowest three bits of a column number. -/
theorem low3 : ∀ j : Fin 1024, IntOp.andi (BitVec.ofNat 32 j.val) 7#32 = BitVec.ofNat 32 (j.val % 8) := by
  decide +kernel

section Blocks

variable (mb : Vec Ideal S1024x128 .i8) (e : Vec Ideal S128x1024 .bf16) (acc : Vec Ideal S1024x1024 .f32)
  (seg : Vec Ideal S1024x32 .f32) (w : Vec Ideal S1024x1024 .fp8e4m3) (ws : Vec Ideal S1x1024 .f32)
  (p : IVec S1024x1024 1)

/-- The mask bit, from the packed bytes. -/
theorem pay3_apply (hE : ∀ k j, e (ix2 k j) = (if j.val / 8 = k.val then 1 else 0 : EReal)) (i j : Fin 1024) :
    Gen.k1_pay3 (F := Ideal) mb e (ix2 i j) = Scores.bit (mb (ix2 i ⟨j.val / 8, by omega⟩)) (j.val % 8) := by
  pointwise [Gen.k1_pay3, dot_S1024x128_S128x1024_S1024x1024_1_0_0_1_n_n]
  rw [low3]
  have hsum : (∑ k : Fin 128, FloatOps.sitofp (F := Ideal) .f32 (BitVec.setWidth 32 (mb (ix2 i k))) * e (ix2 k j) : EReal)
      = FloatOps.sitofp (F := Ideal) .f32 (BitVec.setWidth 32 (mb (ix2 i ⟨j.val / 8, by omega⟩))) := by
    simp only [hE]
    exact Scores.sum_byte (fun k => FloatOps.sitofp (F := Ideal) .f32 (BitVec.setWidth 32 (mb (ix2 i k)))) j
  refine (congrArg (fun v : EReal => IntOp.cmpi .eq (IntOp.andi (IntOp.shrsi .vector (Ideal.fptosi 32 v) (BitVec.ofNat 32 (j.val % 8))) 1#32) 1#32) hsum).trans ?_
  refine (congrArg (fun b : BitVec 32 => IntOp.cmpi .eq (IntOp.andi (IntOp.shrsi .vector b (BitVec.ofNat 32 (j.val % 8))) 1#32) 1#32) (Scores.fptosi_byte _)).trans ?_
  exact Scores.bit_of_shift .vector _ ⟨j.val % 8, Nat.mod_lt _ (by decide)⟩

/-- The growth score from the finished product. -/
theorem pay4_apply (i j : Fin 1024) :
    Gen.k1_pay4 (F := Ideal) mb e acc (ix2 i j)
      = Scalar.select (Gen.k1_pay3 (F := Ideal) mb e (ix2 i j)) 0 (max (acc (ix2 i j)) (-acc (ix2 i j))) := by
  pointwise [Gen.k1_pay4]
  rfl

/-- Row sums of the growth scores over one segment. -/
theorem pay5_apply (hS : ∀ k c, seg (ix2 k c) = (if k.val / 32 = c.val then 1 else 0 : EReal)) (i : Fin 1024) (c : Fin 32) :
    Gen.k1_pay5 (F := Ideal) mb e acc seg (ix3 0 i c)
      = ∑ q : Fin 32, Gen.k1_pay4 (F := Ideal) mb e acc (ix2 i (at32 c q)) := by
  pointwise [Gen.k1_pay5, dot_S1024x1024_S1024x32_S1024x32_1_0_0_1_n_n]
  simp only [hS]
  exact Scores.sum_segment (fun k => Gen.k1_pay4 (F := Ideal) mb e acc (ix2 i k)) c

/-- The largest growth score of a 32 × 32 block. -/
theorem pay6_apply (b c : Fin 32) :
    Gen.k1_pay6 (F := Ideal) mb e acc (ix3 0 b c)
      = Finset.univ.fold max ⊥ fun rq : Fin 32 × Fin 32 =>
          Gen.k1_pay4 (F := Ideal) mb e acc (ix2 (at32 b rq.1) (at32 c rq.2)) := by
  pointwise [Gen.k1_pay6]
  simp only [Scores.ofBits_neg_inf]
  exact Scores.fold_max_nest fun r q => Gen.k1_pay4 (F := Ideal) mb e acc (ix2 (at32 b r) (at32 c q))

/-- The weight size. -/
theorem pay7_apply (i j : Fin 1024) :
    Gen.k1_pay7 (F := Ideal) w ws (ix2 i j) = max (w (ix2 i j)) (-w (ix2 i j)) * ws (ix2 0 j) := by
  pointwise [Gen.k1_pay7]
  rfl

/-- The sum of the kept weight sizes of a 32 × 32 block. -/
theorem pay8_apply (hS : ∀ k c, seg (ix2 k c) = (if k.val / 32 = c.val then 1 else 0 : EReal)) (b c : Fin 32) :
    Gen.k1_pay8 (F := Ideal) p w ws seg (ix3 0 b c)
      = ∑ r : Fin 32, ∑ q : Fin 32,
          Scalar.select (p (ix2 (at32 b r) (at32 c q))) (Gen.k1_pay7 (F := Ideal) w ws (ix2 (at32 b r) (at32 c q))) 0 := by
  pointwise [Gen.k1_pay8, dot_S1024x1024_S1024x32_S1024x32_1_0_0_1_n_n]
  refine Finset.sum_congr rfl fun r _ => ?_
  refine Eq.trans (Finset.sum_congr rfl fun k _ => ?_) (Scores.sum_segment
    (fun k => Scalar.select (p (ix2 (at32 b r) k)) (Gen.k1_pay7 (F := Ideal) w ws (ix2 (at32 b r) k)) 0) c)
  rw [hS, Scores.select_mul]

/-- The smallest kept weight size of a 32 × 32 block, an infinite one replaced by zero. -/
theorem pay9_apply (b c : Fin 32) :
    Gen.k1_pay9 (F := Ideal) p w ws (ix3 0 b c)
      = (fun v : EReal => if max v (-v) = ⊤ then 0 else v) (Finset.univ.fold min ⊤ fun rq : Fin 32 × Fin 32 =>
          Scalar.select (p (ix2 (at32 b rq.1) (at32 c rq.2)))
            (Gen.k1_pay7 (F := Ideal) w ws (ix2 (at32 b rq.1) (at32 c rq.2))) ⊤) := by
  pointwise [Gen.k1_pay9]
  simp only [Scores.ofBits_neg_inf, Scores.ofBits_inf]
  have hf : (0 : EReal) - (Finset.univ.fold max ⊥ fun q : Fin 32 => Finset.univ.fold max ⊥ fun r : Fin 32 =>
        Scalar.select (p (ix2 (at32 b r) (at32 c q))) (0 - Gen.k1_pay7 (F := Ideal) w ws (ix2 (at32 b r) (at32 c q))) ⊥)
      = Finset.univ.fold min ⊤ fun rq : Fin 32 × Fin 32 =>
          Scalar.select (p (ix2 (at32 b rq.1) (at32 c rq.2)))
            (Gen.k1_pay7 (F := Ideal) w ws (ix2 (at32 b rq.1) (at32 c rq.2))) ⊤ := by
    simp only [Scores.select_neg_bot]
    rw [zero_sub, Scores.fold_max_nest fun r q => -Scalar.select (p (ix2 (at32 b r) (at32 c q))) (Gen.k1_pay7 (F := Ideal) w ws (ix2 (at32 b r) (at32 c q))) ⊤]
    exact Scores.neg_fold_max _ _
  exact congrArg (fun v : EReal => if max v (-v) = ⊤ then (0 : EReal) else v) hf

end Blocks

end Cert.KernelIdeal.Hand
-- ==== Proof.KernelIdeal.PrepValue.lean ====
/-
  What the first call leaves in its output array: the activations, scaled per token and transposed.
-/
module

public import proofs.«01_k».proof.Proof.KernelIdeal.Prep
public import proofs.«01_k».proof.Proof.KernelIdeal.Payloads

@[expose] public section

set_option maxRecDepth 16384

noncomputable section

namespace Cert.KernelIdeal.Hand

open Cert.KernelIdeal.Gen
open Idealize.ShloMosaic Idealize.ShloMosaic.TcCoe Idealize.ShloMosaic.Tactic

/-- The block of window 0 at each grid point. -/
theorem idx0_0 : ∀ t : Fin cfg0.N, win0_0.index t = ![t.val / 4, t.val % 4] := (by decide +kernel : ∀ t : Fin grid0.N, _)
/-- The block of window 1 at each grid point. -/
theorem idx0_1 : ∀ t : Fin cfg0.N, win0_1.index t = ![t.val / 4, 0] := (by decide +kernel : ∀ t : Fin grid0.N, _)
/-- The block of window 2 at each grid point. -/
theorem idx0_2 : ∀ t : Fin cfg0.N, win0_2.index t = ![t.val % 4, t.val / 4] := (by decide +kernel : ∀ t : Fin grid0.N, _)

variable (V : Dev nD → Valuation τ sig (Elt Ideal)) (c : Dev nD)

/-- The activations and their scales as the call finds them, one row per token. -/
abbrev actA : S16384x4096.Idx → EReal := V c (Proc.devRef .tc main_v0)
/-- The activations' scales. -/
abbrev actS : S16384x1.Idx → EReal := V c (Proc.devRef .tc main_v2)

/-- The transposed array: entry `(i, n)` is activation `i` of token `n` times that token's scale. -/
def xT : S4096x16384.Idx → EReal := fun i => actA V c (ix2 (i 1) (i 0)) * actS V c (ix2 (i 1) 0)

/-- The first call leaves the scaled and transposed activations. -/
theorem arr0_2 : (dat0 V c).arrAt 2 cfg0.N = xT V c := by
  refine (dat0 V c).arrAt_eq_of_covers 2 (xT V c) (by decide +kernel) fun t hf y => ?_
  blk_simp
  rw [after0_2, eq_ix2 y]
  refine (prep_apply _ _ _ _).trans ?_
  unfold xT
  refine congrArg₂ (fun a b : EReal => a * b) ?_ ?_
  · blk_ext [iblk0, idx0_0 t, idx0_2 t]
  · blk_ext [iblk0, idx0_1 t, idx0_2 t]

end Cert.KernelIdeal.Hand
-- ==== Proof.KernelIdeal.MainValue.lean ====
/-
  What the second call leaves in its four output arrays, when the arrays it reads hold the arguments (`Feeds`): the growth
  maxima, the growth row sums, the drop minima and the drop sums, laid out by slabs of 32 block columns.

  Grid point `t` works on row tile `t / 224`, column tile `t / 16 % 14` and token tile `t % 16`; the sixteen token tiles of
  one output tile are consecutive, and the results are written back at the last of them.
-/
module

public import proofs.«01_k».proof.Proof.KernelIdeal.MainData
public import proofs.«01_k».proof.Proof.KernelIdeal.Payloads

@[expose] public section

set_option maxRecDepth 16384

noncomputable section

namespace Cert.KernelIdeal.Hand

open Cert.KernelIdeal.Gen
open Idealize.ShloMosaic Idealize.ShloMosaic.TcCoe Idealize.ShloMosaic.Tactic

/-- The block of window 0 at each grid point. -/
theorem idx1_0 : ∀ t : Fin cfg1.N, win1_0.index t = ![t.val / 224, t.val % 16] := (by decide +kernel : ∀ t : Fin grid1.N, _)
/-- The block of window 1 at each grid point. -/
theorem idx1_1 : ∀ t : Fin cfg1.N, win1_1.index t = ![t.val % 16, t.val / 16 % 14] := (by decide +kernel : ∀ t : Fin grid1.N, _)
/-- The block of window 2 at each grid point. -/
theorem idx1_2 : ∀ t : Fin cfg1.N, win1_2.index t = ![t.val % 16, 0] := (by decide +kernel : ∀ t : Fin grid1.N, _)
/-- The block of window 3 at each grid point. -/
theorem idx1_3 : ∀ t : Fin cfg1.N, win1_3.index t = ![t.val / 224, t.val / 16 % 14] := (by decide +kernel : ∀ t : Fin grid1.N, _)
/-- The block of window 4 at each grid point. -/
theorem idx1_4 : ∀ t : Fin cfg1.N, win1_4.index t = ![0, t.val / 16 % 14] := (by decide +kernel : ∀ t : Fin grid1.N, _)
/-- The block of window 5 at each grid point. -/
theorem idx1_5 : ∀ t : Fin cfg1.N, win1_5.index t = ![t.val / 224, t.val / 16 % 14] := (by decide +kernel : ∀ t : Fin grid1.N, _)
/-- The block of window 6 at each grid point. -/
theorem idx1_6 : ∀ t : Fin cfg1.N, win1_6.index t = ![0, 0] := (by decide +kernel : ∀ t : Fin grid1.N, _)
/-- The block of window 7 at each grid point. -/
theorem idx1_7 : ∀ t : Fin cfg1.N, win1_7.index t = ![0, 0] := (by decide +kernel : ∀ t : Fin grid1.N, _)
/-- The block of window 8 at each grid point. -/
theorem idx1_8 : ∀ t : Fin cfg1.N, win1_8.index t = ![t.val / 16 % 14, t.val / 224, 0] := (by decide +kernel : ∀ t : Fin grid1.N, _)
/-- The block of window 9 at each grid point. -/
theorem idx1_9 : ∀ t : Fin cfg1.N, win1_9.index t = ![t.val / 16 % 14, t.val / 224, 0] := (by decide +kernel : ∀ t : Fin grid1.N, _)
/-- The block of window 10 at each grid point. -/
theorem idx1_10 : ∀ t : Fin cfg1.N, win1_10.index t = ![t.val / 16 % 14, t.val / 224, 0] := (by decide +kernel : ∀ t : Fin grid1.N, _)
/-- The block of window 11 at each grid point. -/
theorem idx1_11 : ∀ t : Fin cfg1.N, win1_11.index t = ![t.val / 16 % 14, t.val / 224, 0] := (by decide +kernel : ∀ t : Fin grid1.N, _)

/-- The call has 896 grid points. -/
theorem lt896 (t : Fin cfg1.N) : t.val < 896 := t.isLt

/-! ## Blocks at coordinates -/

/-- Row `r`, column `q` and token `k` of point `t`'s tiles, on the whole axes. -/
def rowAt (t : Fin cfg1.N) (r : Fin 1024) : Fin 4096 := ⟨t.val / 224 * 1024 + r.val, by have := lt896 t; omega⟩
/-- Column `q` of point `t`'s tile. -/
def colAt (t : Fin cfg1.N) (q : Fin 1024) : Fin 14336 := ⟨t.val / 16 % 14 * 1024 + q.val, by omega⟩
/-- Token `k` of point `t`'s tile. -/
def tokAt (t : Fin cfg1.N) (k : Fin 1024) : Fin 16384 := ⟨t.val % 16 * 1024 + k.val, by omega⟩

variable (V : Dev nD → Valuation τ sig (Elt Ideal)) (c : Dev nD)

/-- The arrays the call reads, as it finds them. -/
abbrev inX : S4096x16384.Idx → EReal := V c (Proc.devRef .tc main_v3)
/-- The output gradients. -/
abbrev inDy : S16384x14336.Idx → EReal := V c (Proc.devRef .tc main_v1)
/-- The output gradients' scales. -/
abbrev inDs : S16384x1.Idx → EReal := V c (Proc.devRef .tc main_v22)
/-- The weights. -/
abbrev inW : S4096x14336.Idx → EReal := V c (Proc.devRef .tc main_arg4)
/-- The weights' column scales. -/
abbrev inWs : S1x14336.Idx → EReal := V c (Proc.devRef .tc main_v23)
/-- The packed mask. -/
abbrev inMask : S4096x1792.Idx → BitVec 8 := V c (Proc.devRef .tc main_arg6)
/-- The indicator of bytes. -/
abbrev inE : S128x1024.Idx → EReal := V c (Proc.devRef .tc main_v12)
/-- The indicator of segments. -/
abbrev inSeg : S1024x32.Idx → EReal := V c (Proc.devRef .tc main_v21)

/-- The activations' block at a point: its row tile and token tile. -/
theorem blk_x (t : Fin cfg1.N) (r k : Fin 1024) : iblk1 V c 0 t (ix2 r k) = inX V c (ix2 (rowAt t r) (tokAt t k)) := by
  unfold rowAt tokAt; blk_ext [iblk1, idx1_0 t]
/-- The output gradients' block: its token tile and column tile. -/
theorem blk_dy (t : Fin cfg1.N) (k q : Fin 1024) : iblk1 V c 1 t (ix2 k q) = inDy V c (ix2 (tokAt t k) (colAt t q)) := by
  unfold colAt tokAt; blk_ext [iblk1, idx1_1 t]
/-- Their scales' block: its token tile. -/
theorem blk_ds (t : Fin cfg1.N) (k : Fin 1024) : iblk1 V c 2 t (ix2 k 0) = inDs V c (ix2 (tokAt t k) 0) := by
  unfold tokAt; blk_ext [iblk1, idx1_2 t]
/-- The weights' block: its row tile and column tile. -/
theorem blk_w (t : Fin cfg1.N) (r q : Fin 1024) : iblk1 V c 3 t (ix2 r q) = inW V c (ix2 (rowAt t r) (colAt t q)) := by
  unfold rowAt colAt; blk_ext [iblk1, idx1_3 t]
/-- The column scales' block: its column tile. -/
theorem blk_ws (t : Fin cfg1.N) (q : Fin 1024) : iblk1 V c 4 t (ix2 0 q) = inWs V c (ix2 0 (colAt t q)) := by
  unfold colAt; blk_ext [iblk1, idx1_4 t]
/-- The mask's block: its row tile and the 128 bytes of its column tile. -/
theorem blk_mask (t : Fin cfg1.N) (r : Fin 1024) (b : Fin 128) :
    iblk1 V c 5 t (ix2 r b) = inMask V c (ix2 (rowAt t r) ⟨t.val / 16 % 14 * 128 + b.val, by omega⟩) := by
  unfold rowAt; blk_ext [iblk1, idx1_5 t]
/-- The byte indicator is read whole. -/
theorem blk_e (t : Fin cfg1.N) (k : Fin 128) (j : Fin 1024) : iblk1 V c 6 t (ix2 k j) = inE V c (ix2 k j) := by
  blk_ext [iblk1, idx1_6 t]
/-- The segment indicator is read whole. -/
theorem blk_seg (t : Fin cfg1.N) (k : Fin 1024) (j : Fin 32) : iblk1 V c 7 t (ix2 k j) = inSeg V c (ix2 k j) := by
  blk_ext [iblk1, idx1_7 t]

/-- The arrays the call reads hold the arguments `A`: the activations scaled and transposed, tokens numbered through all
    batches, and the two indicator matrices. -/
structure Feeds (A : Scores.Args) : Prop where
  x : ∀ i n, inX V c (ix2 i n)
    = A.x ⟨n.val / 2048, by omega⟩ ⟨n.val % 2048, by omega⟩ i * A.xs ⟨n.val / 2048, by omega⟩ ⟨n.val % 2048, by omega⟩
  dy : ∀ n j, inDy V c (ix2 n j) = A.dy ⟨n.val / 2048, by omega⟩ ⟨n.val % 2048, by omega⟩ j
  ds : ∀ n, inDs V c (ix2 n 0) = A.ds ⟨n.val / 2048, by omega⟩ ⟨n.val % 2048, by omega⟩
  w : ∀ i j, inW V c (ix2 i j) = A.w i j
  ws : ∀ j, inWs V c (ix2 0 j) = A.ws j
  mask : ∀ i b, inMask V c (ix2 i b) = A.mask i b
  e : ∀ k j, inE V c (ix2 k j) = (if j.val / 8 = k.val then 1 else 0 : EReal)
  seg : ∀ k s, inSeg V c (ix2 k s) = (if k.val / 32 = s.val then 1 else 0 : EReal)

variable {V c} {A : Scores.Args} (hA : Feeds V c A)

/-! ## The running product -/

/-- Token `n`'s term of the gradient of weight `(i, j)`. -/
def tokTerm (A : Scores.Args) (i : Fin 4096) (j : Fin 14336) (n : Nat) : EReal :=
  let a : Fin 8 := ⟨n / 2048 % 8, by omega⟩
  let s : Fin 2048 := ⟨n % 2048, by omega⟩
  (A.x a s i * A.xs a s) * (A.dy a s j * A.ds a s)

/-- All tokens' terms, by tiles of 1024, are the gradient. -/
theorem sum_tokTerm (A : Scores.Args) (i : Fin 4096) (j : Fin 14336) :
    ∑ s : Fin 16, ∑ k : Fin 1024, tokTerm A i j (s.val * 1024 + k.val) = A.grad i j := by
  rw [Scores.sum_tokens]
  unfold Scores.Args.grad
  refine Finset.sum_congr rfl fun a _ => Finset.sum_congr rfl fun s _ => ?_
  have ha : (⟨(a.val * 2048 + s.val) / 2048 % 8, by omega⟩ : Fin 8) = a := Fin.ext (by show _ / 2048 % 8 = _; omega)
  have hs : (⟨(a.val * 2048 + s.val) % 2048, by omega⟩ : Fin 2048) = s := Fin.ext (by show _ % 2048 = _; omega)
  unfold tokTerm
  simp only [ha, hs]

include hA in
/-- One point's product, at an element. -/
theorem step_term (t : Fin cfg1.N) (acc : Vec Ideal S1024x1024 .f32) (r q : Fin 1024) :
    k1_pay2 (iblk1 V c 1 t) (iblk1 V c 2 t) acc (iblk1 V c 0 t) (ix2 r q)
      = acc (ix2 r q) + ∑ k : Fin 1024, tokTerm A (rowAt t r) (colAt t q) (t.val % 16 * 1024 + k.val) := by
  refine (pay2_apply _ _ _ _ r q).trans (congrArg (acc (ix2 r q) + ·) (Finset.sum_congr rfl fun k _ => ?_))
  rw [blk_x, blk_dy, blk_ds, hA.x, hA.dy, hA.ds]
  have ha : (⟨(t.val % 16 * 1024 + k.val) / 2048 % 8, by omega⟩ : Fin 8) = ⟨(tokAt t k).val / 2048, by omega⟩ :=
    Fin.ext (by show _ / 2048 % 8 = (t.val % 16 * 1024 + k.val) / 2048; omega)
  unfold tokTerm
  simp only [ha]
  rfl

include hA in
/-- At a tile's last token tile the running product is the gradient. -/
theorem acc_grad (t : Fin cfg1.N) (ht : t.val % 16 = 15) (r q : Fin 1024) :
    accAt V c t.val t.isLt (ix2 r q) = A.grad (rowAt t r) (colAt t q) := by
  have h := Pipeline.eq_sum_fin_of_reset_step_apply_of_flush (N := cfg1.N) (ι := Fin 1024 × Fin 1024) (M := EReal)
    (fun n hn i => accAt V c n hn (ix2 i.1 i.2)) 16 (fun _ => 0)
    (fun t i => ∑ k : Fin 1024, tokTerm A (rowAt t i.1) (colAt t i.2) (t.val % 16 * 1024 + k.val))
    (fun t h0 i => by
      show accAt V c t.val t.isLt (ix2 i.1 i.2) = _
      rw [accAt_first V c t h0, step_term hA, pay1_apply])
    (fun t h0 i => by
      show accAt V c t.val t.isLt (ix2 i.1 i.2) = _
      rw [accAt_next V c t h0, step_term hA])
    t ht (r, q)
  refine h.trans ?_
  rw [zero_add, ← sum_tokTerm]
  refine Finset.sum_congr rfl fun s _ => Finset.sum_congr rfl fun k _ => ?_
  have hs := s.isLt
  have hr : rowAt ⟨16 * (t.val / 16) + s.val, Pipeline.run_point_lt_of_flush t ht s⟩ r = rowAt t r :=
    Fin.ext (by show (16 * (t.val / 16) + s.val) / 224 * 1024 + r.val = t.val / 224 * 1024 + r.val; omega)
  have hc : colAt ⟨16 * (t.val / 16) + s.val, Pipeline.run_point_lt_of_flush t ht s⟩ q = colAt t q :=
    Fin.ext (by show (16 * (t.val / 16) + s.val) / 16 % 14 * 1024 + q.val = t.val / 16 % 14 * 1024 + q.val; omega)
  show tokTerm A (rowAt _ r) (colAt _ q) ((16 * (t.val / 16) + s.val) % 16 * 1024 + k.val) = _
  rw [hr, hc, show (16 * (t.val / 16) + s.val) % 16 = s.val by omega]

/-! ## One tile's scores -/

include hA in
/-- The mask bit of a weight of the tile. -/
theorem blk_on (t : Fin cfg1.N) (r q : Fin 1024) :
    k1_pay3 (F := Ideal) (iblk1 V c 5 t) (iblk1 V c 6 t) (ix2 r q) = A.on (rowAt t r) (colAt t q) := by
  refine (pay3_apply _ _ (fun k j => (blk_e V c t k j).trans (hA.e k j)) r q).trans ?_
  rw [blk_mask, hA.mask]
  unfold Scores.Args.on
  have h1 : (⟨t.val / 16 % 14 * 128 + q.val / 8, by omega⟩ : Fin 1792) = ⟨(colAt t q).val / 8, by omega⟩ :=
    Fin.ext (by show _ = (t.val / 16 % 14 * 1024 + q.val) / 8; show t.val / 16 % 14 * 128 + q.val / 8 = _; omega)
  have h2 : q.val % 8 = (colAt t q).val % 8 := by show _ = (t.val / 16 % 14 * 1024 + q.val) % 8; omega
  exact congrArg₂ Scores.bit (congrArg (A.mask _) h1) h2

include hA in
/-- The growth score of a weight of the tile, at its last token tile. -/
theorem blk_grow (t : Fin cfg1.N) (ht : t.val % 16 = 15) (r q : Fin 1024) :
    k1_pay4 (F := Ideal) (iblk1 V c 5 t) (iblk1 V c 6 t) (accAt V c t.val t.isLt) (ix2 r q) = A.grow (rowAt t r) (colAt t q) := by
  refine (pay4_apply _ _ _ r q).trans ?_
  rw [blk_on hA, acc_grad hA t ht]
  rfl

include hA in
/-- The size of a weight of the tile. -/
theorem blk_size (t : Fin cfg1.N) (r q : Fin 1024) :
    k1_pay7 (F := Ideal) (iblk1 V c 3 t) (iblk1 V c 4 t) (ix2 r q) = A.size (rowAt t r) (colAt t q) := by
  refine (pay7_apply _ _ r q).trans ?_
  rw [blk_w, blk_ws, hA.w, hA.ws]
  rfl

/-- Block row `b` and block column `s` of point `t`'s tile, on the whole axes. -/
def browAt (t : Fin cfg1.N) (b : Fin 32) : Fin 128 := ⟨t.val / 224 * 32 + b.val, by have := lt896 t; omega⟩
/-- Block column `s` of point `t`'s tile. -/
def bcolAt (t : Fin cfg1.N) (s : Fin 32) : Fin 448 := ⟨t.val / 16 % 14 * 32 + s.val, by omega⟩

/-- Row `r` of block row `b` of a tile, on the whole axis. -/
theorem rowAt_at32 (t : Fin cfg1.N) (b r : Fin 32) : rowAt t (at32 b r) = Scores.row (browAt t b) r :=
  Fin.ext (by show t.val / 224 * 1024 + (b.val * 32 + r.val) = (t.val / 224 * 32 + b.val) * 32 + r.val; omega)
/-- Column `q` of block column `s` of a tile, on the whole axis. -/
theorem colAt_at32 (t : Fin cfg1.N) (s q : Fin 32) : colAt t (at32 s q) = Scores.col (bcolAt t s) q :=
  Fin.ext (by show t.val / 16 % 14 * 1024 + (s.val * 32 + q.val) = (t.val / 16 % 14 * 32 + s.val) * 32 + q.val; omega)

include hA in
/-- A tile's growth maxima. -/
theorem tile_growMax (t : Fin cfg1.N) (ht : t.val % 16 = 15) (b s : Fin 32) :
    k1_pay6 (F := Ideal) (iblk1 V c 5 t) (iblk1 V c 6 t) (accAt V c t.val t.isLt) (ix3 0 b s) = A.growMax (browAt t b) (bcolAt t s) := by
  refine (pay6_apply _ _ _ b s).trans ?_
  simp only [blk_grow hA t ht, rowAt_at32, colAt_at32]
  rfl

include hA in
/-- A tile's growth row sums. -/
theorem tile_growSum (t : Fin cfg1.N) (ht : t.val % 16 = 15) (r : Fin 1024) (s : Fin 32) :
    k1_pay5 (F := Ideal) (iblk1 V c 5 t) (iblk1 V c 6 t) (accAt V c t.val t.isLt) (iblk1 V c 7 t) (ix3 0 r s)
      = A.growSum (rowAt t r) (bcolAt t s) := by
  refine (pay5_apply _ _ _ _ (fun k j => (blk_seg V c t k j).trans (hA.seg k j)) r s).trans ?_
  simp only [blk_grow hA t ht, colAt_at32]
  rfl

include hA in
/-- A tile's drop minima. -/
theorem tile_dropMin (t : Fin cfg1.N) (b s : Fin 32) :
    k1_pay9 (F := Ideal) (k1_pay3 (iblk1 V c 5 t) (iblk1 V c 6 t)) (iblk1 V c 3 t) (iblk1 V c 4 t) (ix3 0 b s)
      = A.dropMin (browAt t b) (bcolAt t s) := by
  refine (pay9_apply _ _ _ b s).trans ?_
  simp only [blk_on hA, blk_size hA, rowAt_at32, colAt_at32]
  rfl

include hA in
/-- A tile's drop sums. -/
theorem tile_dropSum (t : Fin cfg1.N) (b s : Fin 32) :
    k1_pay8 (F := Ideal) (k1_pay3 (iblk1 V c 5 t) (iblk1 V c 6 t)) (iblk1 V c 3 t) (iblk1 V c 4 t) (iblk1 V c 7 t) (ix3 0 b s)
      = A.dropSum (browAt t b) (bcolAt t s) := by
  refine (pay8_apply _ _ _ _ (fun k j => (blk_seg V c t k j).trans (hA.seg k j)) b s).trans ?_
  simp only [blk_on hA, blk_size hA, rowAt_at32, colAt_at32]
  rfl

/-! ## The output arrays -/

/-- A result indexed by (row or block row, block column), laid out by slabs of 32 block columns. -/
def slabs {n : Nat} (f : Fin n → Fin 448 → EReal) : (⟨3, ![14, n, 32]⟩ : Shape).Idx → EReal :=
  fun i => f (i 1) ⟨(i 0).val * 32 + (i 2).val, by have h0 : (i 0).val < 14 := (i 0).isLt; have h2 : (i 2).val < 32 := (i 2).isLt; omega⟩

/-- The layout by slabs at an index, from the index's coordinates. -/
theorem slabs_eq {n : Nat} (f : Fin n → Fin 448 → EReal) (i : (⟨3, ![14, n, 32]⟩ : Shape).Idx) (b : Fin n) (k : Fin 448)
    (hb : (i 1).val = b.val) (hk : (i 0).val * 32 + (i 2).val = k.val) : slabs f i = f b k := by
  unfold slabs
  exact congrArg₂ f (Fin.ext hb) (Fin.ext hk)

/-- The first axis of an output block has one element. -/
theorem eq_ix3_zero {n : Nat} (y : (⟨3, ![1, n, 32]⟩ : Shape).Idx) : y = ix3 (n0 := 1) (n1 := n) (n2 := 32) 0 (y 1) (y 2) := by
  have h : y 0 = (0 : Fin 1) := Subsingleton.elim (α := Fin 1) _ _
  rw [eq_ix3 y]; congr 1

include hA in
/-- The first output array holds the growth maxima. -/
theorem arr1_8 : (dat1 V c).arrAt 8 cfg1.N = slabs A.growMax := by
  refine (dat1 V c).arrAt_eq_of_covers 8 (slabs A.growMax) (by decide +kernel) fun t hf y => ?_
  have ht := (flush1_8 t).mp hf
  rw [slabs_eq A.growMax _ (browAt t (y 1)) (bcolAt t (y 2))]
  · blk_simp
    rw [after1_8, eq_ix3_zero y]
    exact tile_growMax hA t ht (y 1) (y 2)
  · unfold browAt; blk_simp [idx1_8 t]
  · unfold bcolAt; idx_bounds y; blk_simp [idx1_8 t]

include hA in
/-- The second output array holds the growth row sums. -/
theorem arr1_9 : (dat1 V c).arrAt 9 cfg1.N = slabs A.growSum := by
  refine (dat1 V c).arrAt_eq_of_covers 9 (slabs A.growSum) (by decide +kernel) fun t hf y => ?_
  have ht := (flush1_9 t).mp hf
  rw [slabs_eq A.growSum _ (rowAt t (y 1)) (bcolAt t (y 2))]
  · blk_simp
    rw [after1_9, eq_ix3_zero y]
    exact tile_growSum hA t ht (y 1) (y 2)
  · unfold rowAt; blk_simp [idx1_9 t]
  · unfold bcolAt; idx_bounds y; blk_simp [idx1_9 t]

include hA in
/-- The third output array holds the drop minima. -/
theorem arr1_10 : (dat1 V c).arrAt 10 cfg1.N = slabs A.dropMin := by
  refine (dat1 V c).arrAt_eq_of_covers 10 (slabs A.dropMin) (by decide +kernel) fun t hf y => ?_
  have ht := (flush1_10 t).mp hf
  rw [slabs_eq A.dropMin _ (browAt t (y 1)) (bcolAt t (y 2))]
  · blk_simp
    rw [after1_10, eq_ix3_zero y]
    exact tile_dropMin hA t (y 1) (y 2)
  · unfold browAt; blk_simp [idx1_10 t]
  · unfold bcolAt; idx_bounds y; blk_simp [idx1_10 t]

include hA in
/-- The fourth output array holds the drop sums. -/
theorem arr1_11 : (dat1 V c).arrAt 11 cfg1.N = slabs A.dropSum := by
  refine (dat1 V c).arrAt_eq_of_covers 11 (slabs A.dropSum) (by decide +kernel) fun t hf y => ?_
  have ht := (flush1_11 t).mp hf
  rw [slabs_eq A.dropSum _ (browAt t (y 1)) (bcolAt t (y 2))]
  · blk_simp
    rw [after1_11, eq_ix3_zero y]
    exact tile_dropSum hA t (y 1) (y 2)
  · unfold browAt; blk_simp [idx1_11 t]
  · unfold bcolAt; idx_bounds y; blk_simp [idx1_11 t]

end Cert.KernelIdeal.Hand
-- ==== Proof.KernelIdeal.Results.lean ====
/-
  What the kernel leaves in its four results, by coordinates: the four functions of `Scores.Args`.
-/
module

public import proofs.«01_k».proof.Proof.KernelIdeal.HostValues
public import proofs.«01_k».proof.Proof.KernelIdeal.PrepValue
public import proofs.«01_k».proof.Proof.KernelIdeal.MainValue

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The arguments of a launch, by coordinates. -/
def args : Scores.Args where
  x a s i := (m ((c.tc : Thread nD τ).loc main_arg0) : Vec Ideal S8x2048x4096 .fp8e4m3) (ix3 a s i)
  xs a s := (m ((c.tc : Thread nD τ).loc main_arg1) : Vec Ideal S8x2048 .f32) (ix2 a s)
  dy a s j := (m ((c.tc : Thread nD τ).loc main_arg2) : Vec Ideal S8x2048x14336 .fp8e5m2) (ix3 a s j)
  ds a s := (m ((c.tc : Thread nD τ).loc main_arg3) : Vec Ideal S8x2048 .f32) (ix2 a s)
  w i j := (m ((c.tc : Thread nD τ).loc main_arg4) : Vec Ideal S4096x14336 .fp8e4m3) (ix2 i j)
  ws j := (m ((c.tc : Thread nD τ).loc main_arg5) : Vec Ideal S14336 .f32) (ix1 j)
  mask i k := (m ((c.tc : Thread nD τ).loc main_arg6) : Vec Ideal S4096x1792 .i8) (ix2 i k)

/-! ## The buffers the second call is entered with -/

/-- The host lines between the calls, up to the last stretch, leave the buffers they do not write. -/
theorem V6_keep (r : Ref sig .tc) (h1 : r ∉ hostOps1_W) (h2 : r ∉ hostOps1_1_W) (h3 : r ∉ hostOps1_2_W) (h4 : r ∉ hostOps1_3_W) :
    V6 m (outsA m) c r = V2 m (outsA m) c r :=
  (V6_of m _ c r h4).trans ((V5_of m _ c r h3).trans ((V4_of m _ c r h2).trans (V3_of m _ c r h1)))

/-- The same up to the second call. -/
theorem W7_keep (r : Ref sig .tc) (h1 : r ∉ hostOps1_W) (h2 : r ∉ hostOps1_1_W) (h3 : r ∉ hostOps1_2_W) (h4 : r ∉ hostOps1_3_W)
    (h5 : r ∉ hostOps1_4_W) : W7 m c r = V2 m (outsA m) c r :=
  (V7_of m _ c r h5).trans (V6_keep m c r h1 h2 h3 h4)

/-- An argument is as launched up to the last stretch. -/
theorem V6_arg (r : Ref sig .tc) (h0 : r ∉ hostOps0_W) (hv : r ∉ ([main_v3] : List (Ref sig .tc))) (h1 : r ∉ hostOps1_W)
    (h2 : r ∉ hostOps1_1_W) (h3 : r ∉ hostOps1_2_W) (h4 : r ∉ hostOps1_3_W) : V6 m (outsA m) c r = V0 m c r :=
  (V6_keep m c r h1 h2 h3 h4).trans ((V2_of m _ c r hv).trans (V1_of m c r h0))

/-- The first call's result is the scaled and transposed activations. -/
theorem W7_v3 : W7 m c (Proc.devRef .tc main_v3) = xT (V1 m) c := by
  refine (W7_keep m c main_v3 (by decide) (by decide) (by decide) (by decide) (by decide)).trans ?_
  refine (Function.update_self (β := fun b : DevRef τ sig => b.ty.Contents (Elt Ideal)) _ _ _).trans ?_
  exact (Pipeline.afterRegion_arr (dat0 (V1 m) c) (V1 m c) launch0.win.arr_inj 2).trans (arr0_2 (V1 m) c)

/-- The indicator "column `j` lies in byte `k`". -/
theorem W7_e (k : Fin 128) (j : Fin 1024) :
    (W7 m c (Proc.devRef .tc main_v12) : FVec Ideal S128x1024 .bf16) (ix2 k j) = (if j.val / 8 = k.val then 1 else 0 : EReal) := by
  have h : W7 m c main_v12 = V5 m (outsA m) c main_v12 :=
    (V7_of m _ c main_v12 (by decide)).trans (V6_of m _ c main_v12 (by decide))
  exact (congrFun h _).trans (ops1_2_v12 _ (ops1_1_v6 _ (ops1_v5 _) (ops1_c _)) k j)

/-- The indicator "column `k` lies in segment `s`". -/
theorem W7_seg (k : Fin 1024) (s : Fin 32) :
    (W7 m c (Proc.devRef .tc main_v21) : FVec Ideal S1024x32 .f32) (ix2 k s) = (if k.val / 32 = s.val then 1 else 0 : EReal) :=
  ops1_4_v21 _ (ops1_3_v15 _ (ops1_2_v14 _) (ops1_2_c_0 _)) k s

/-- The second call reads the arguments. -/
theorem feeds : Feeds (W7 m) c (args m c) where
  x i n := by
    refine (congrFun (W7_v3 m c) (ix2 i n)).trans ?_
    exact congrArg₂ (fun a b : EReal => a * b) (ops0_v0 (V0 m c) n i) (ops0_v2 (V0 m c) n)
  dy n j := by
    have h : W7 m c main_v1 = V1 m c main_v1 :=
      (W7_keep m c main_v1 (by decide) (by decide) (by decide) (by decide) (by decide)).trans (V2_of m _ c main_v1 (by decide))
    exact (congrFun h (ix2 n j)).trans (ops0_v1 (V0 m c) n j)
  ds n := (ops1_4_v22 (V6 m (outsA m) c) n).trans
    (congrFun (V6_arg m c main_arg3 (by decide) (by decide) (by decide) (by decide) (by decide) (by decide)) _)
  w i j := congrFun ((V7_of m (outsA m) c main_arg4 (by decide)).trans
    (V6_arg m c main_arg4 (by decide) (by decide) (by decide) (by decide) (by decide) (by decide))) _
  ws j := (ops1_4_v23 (V6 m (outsA m) c) j).trans
    (congrFun (V6_arg m c main_arg5 (by decide) (by decide) (by decide) (by decide) (by decide) (by decide)) _)
  mask i b := congrFun ((V7_of m (outsA m) c main_arg6 (by decide)).trans
    (V6_arg m c main_arg6 (by decide) (by decide) (by decide) (by decide) (by decide) (by decide))) _
  e k j := W7_e m c k j
  seg k s := W7_seg m c k s

/-! ## The results -/

/-- An array of the second call, as the last host lines find it. -/
theorem V8_arr (w : Fin cfg1.W) :
    V8 m (outsB m) c (Proc.devRef .tc (Pipeline.arrRef spec1 w)) = (dat1 (W7 m) c).arrAt w cfg1.N :=
  (W8_eq m c _ (arrs1 (F := Ideal) (Finset.mem_map.mpr ⟨Pipeline.arrRef spec1 w, Finset.mem_image.mpr ⟨w, Finset.mem_univ _, rfl⟩, rfl⟩))).symm.trans (Pipeline.afterRegion_arr (dat1 (W7 m) c) (W7 m c) launch1.win.arr_inj w)

/-- Block column `k` is lane `k % 32` of slab `k / 32`. -/
theorem slabs_at {n : Nat} (f : Fin n → Fin 448 → EReal) (b : Fin n) (k : Fin 448) :
    slabs f (ix3 ⟨k.val / 32, by omega⟩ b ⟨k.val % 32, by omega⟩) = f b k :=
  slabs_eq f _ b k rfl (by show k.val / 32 * 32 + k.val % 32 = k.val; omega)

/-- First result: the growth maxima. -/
theorem growMax_eq (b : Fin 128) (k : Fin 448) :
    (V9 m (outsB m) c (Proc.devRef .tc main_v26) : FVec Ideal S128x448 .f32) (ix2 b k) = (args m c).growMax b k :=
  (ops2_v26 (V8 m (outsB m) c) b k).trans
    ((congrFun ((V8_arr m c 8).trans (arr1_8 (feeds m c))) _).trans (slabs_at _ b k))

/-- Second result: the growth row sums. -/
theorem growSum_eq (i : Fin 4096) (k : Fin 448) :
    (V9 m (outsB m) c (Proc.devRef .tc main_v28) : FVec Ideal S4096x448 .f32) (ix2 i k) = (args m c).growSum i k :=
  (ops2_v28 (V8 m (outsB m) c) i k).trans
    ((congrFun ((V8_arr m c 9).trans (arr1_9 (feeds m c))) _).trans (slabs_at _ i k))

/-- Third result: the drop minima. -/
theorem dropMin_eq (b : Fin 128) (k : Fin 448) :
    (V9 m (outsB m) c (Proc.devRef .tc main_v30) : FVec Ideal S128x448 .f32) (ix2 b k) = (args m c).dropMin b k :=
  (ops2_v30 (V8 m (outsB m) c) b k).trans
    ((congrFun ((V8_arr m c 10).trans (arr1_10 (feeds m c))) _).trans (slabs_at _ b k))

/-- Fourth result: the drop sums. -/
theorem dropSum_eq (b : Fin 128) (k : Fin 448) :
    (V9 m (outsB m) c (Proc.devRef .tc main_v32) : FVec Ideal S128x448 .f32) (ix2 b k) = (args m c).dropSum b k :=
  (ops2_v32 (V8 m (outsB m) c) b k).trans
    ((congrFun ((V8_arr m c 11).trans (arr1_11 (feeds m c))) _).trans (slabs_at _ b k))

end Cert.KernelIdeal.Hand
-- ==== Proof.BlockReduce.lean ====
/-
  A host reduction of a rank-4 array over its axes 1 and 3, read at an element: the fold or the sum over all pairs of
  coordinates on those two axes. The sizes are variables.
-/
module

public import Idealize.ShloMosaic.Lib.Pointwise

@[expose] public section

open Idealize.ShloMosaic

namespace Cert.Scores

variable {n0 n1 n2 n3 : Nat}

/-- The source indices that drop to `(b, c)` are the `(b, r, c, q)`. -/
theorem fiber13 (h : (⟨4, ![n0, n1, n2, n3]⟩ : Shape).ReducesTo [1, 3] ⟨2, ![n0, n2]⟩) (b : Fin n0) (c : Fin n2)
    (i : (⟨4, ![n0, n1, n2, n3]⟩ : Shape).Idx) :
    h.drop i = ix2 b c ↔ ∃ k : Fin n1 × Fin n3, ix4 b k.1 c k.2 = i := by
  constructor
  · intro e
    refine ⟨(i 1, i 3), ?_⟩
    funext a; apply Fin.ext
    match a with
    | ⟨0, _⟩ => exact (congrArg Fin.val (congrFun e (0 : Fin 2))).symm
    | ⟨1, _⟩ => rfl
    | ⟨2, _⟩ => exact (congrArg Fin.val (congrFun e (1 : Fin 2))).symm
    | ⟨3, _⟩ => rfl
  · rintro ⟨k, rfl⟩
    funext a
    apply Fin.ext
    match a with
    | ⟨0, _⟩ => rfl
    | ⟨1, _⟩ => rfl

/-- A commutative fold over axes 1 and 3. -/
theorem reduce13 {α : Type} {u : Shape} (f : α → α → α) [Std.Commutative f] [Std.Associative f]
    (x : (⟨4, ![n0, n1, n2, n3]⟩ : Shape).Idx → α) (init : u.Idx → α)
    (h : (⟨4, ![n0, n1, n2, n3]⟩ : Shape).ReducesTo [1, 3] ⟨2, ![n0, n2]⟩) (hu : 0 < u.numel) (b : Fin n0) (c : Fin n2) :
    Host.reduce f x init h hu (ix2 b c)
      = (Finset.univ : Finset (Fin n1 × Fin n3)).fold f (init (Shape.Idx.first hu)) fun p => x (ix4 b p.1 c p.2) := by
  rw [Host.reduce_eq_fold]
  exact Finset.fold_filter_eq_fold_of_fiber f _ (fun k : Fin n1 × Fin n3 => ix4 b k.1 c k.2)
    (fun _ _ e => Prod.ext (congrFun e 1) (congrFun e 3)) (fiber13 h b c) _ x

/-- A sum over axes 1 and 3. -/
theorem reduceAdd13 (x : (⟨4, ![n0, n1, n2, n3]⟩ : Shape).Idx → EReal) (init : EReal)
    (h : (⟨4, ![n0, n1, n2, n3]⟩ : Shape).ReducesTo [1, 3] ⟨2, ![n0, n2]⟩) (b : Fin n0) (c : Fin n2) :
    Ideal.hostReduceAdd h x init (ix2 b c) = init + ∑ r : Fin n1, ∑ q : Fin n3, x (ix4 b r c q) := by
  refine congrArg (init + ·) ?_
  refine (Finset.sum_filter_eq_sum_of_fiber _ (fun k : Fin n1 × Fin n3 => ix4 b k.1 c k.2)
    (fun _ _ e => Prod.ext (congrFun e 1) (congrFun e 3)) (fiber13 h b c) x).trans ?_
  simp only [Fintype.sum_prod_type]

end Cert.Scores
-- ==== Proof.ReferenceIdeal.Values.lean ====
/-
  What the reference leaves in its four results, by coordinates: the four functions of `Scores.Args`.
-/
module

public import proofs.«01_k».proof.Proof.Gen.ReferenceIdeal.Read
public import proofs.«01_k».proof.Proof.Math
public import proofs.«01_k».proof.Proof.BlockReduce
public import Idealize.ShloMosaic.Lib.Pipeline.ValueKit

@[expose] public section

set_option maxRecDepth 16384

noncomputable section

open Idealize.ShloMosaic Idealize.ShloMosaic.TcCoe Cert.ReferenceIdeal
open Idealize.ShloMosaic.Pipeline (Dat Cfg Window)

namespace Cert.ReferenceIdeal.Hand

/-! ### The three dequantised arrays -/

/-- The dequantised activations: code times the token's scale. -/
theorem pay1_apply (v0 : Vec Ideal S8x2048x4096 .fp8e4m3) (v2 : Vec Ideal S8x2048 .f32) (a : Fin 8) (s : Fin 2048)
    (i : Fin 4096) : Gen.k0_pay1 (F := Ideal) v0 v2 (ix3 a s i) = v0 (ix3 a s i) * v2 (ix2 a s) := by
  pointwise [Gen.k0_pay1]

/-- The dequantised output gradients: code times the token's scale. -/
theorem pay2_apply (v0 : Vec Ideal S8x2048x14336 .fp8e5m2) (v2 : Vec Ideal S8x2048 .f32) (a : Fin 8) (s : Fin 2048)
    (j : Fin 14336) : Gen.k0_pay2 (F := Ideal) v0 v2 (ix3 a s j) = v0 (ix3 a s j) * v2 (ix2 a s) := by
  pointwise [Gen.k0_pay2]

section Arrays

variable (m : (ℓ : Loc nD τ sig) → Buf (Elt Ideal) ℓ) (c : Dev nD)

/-- The arguments of a launch, by coordinates. -/
def args : Scores.Args where
  x a s i := (m ((c.tc : Thread nD τ).loc main_arg0) : Vec Ideal S8x2048x4096 .fp8e4m3) (ix3 a s i)
  xs a s := (m ((c.tc : Thread nD τ).loc main_arg1) : Vec Ideal S8x2048 .f32) (ix2 a s)
  dy a s j := (m ((c.tc : Thread nD τ).loc main_arg2) : Vec Ideal S8x2048x14336 .fp8e5m2) (ix3 a s j)
  ds a s := (m ((c.tc : Thread nD τ).loc main_arg3) : Vec Ideal S8x2048 .f32) (ix2 a s)
  w i j := (m ((c.tc : Thread nD τ).loc main_arg4) : Vec Ideal S4096x14336 .fp8e4m3) (ix2 i j)
  ws j := (m ((c.tc : Thread nD τ).loc main_arg5) : Vec Ideal S14336 .f32) (ix1 j)
  mask i k := (m ((c.tc : Thread nD τ).loc main_arg6) : Vec Ideal S4096x1792 .i8) (ix2 i k)

/-- The one grid point of the dequantising call. -/
abbrev t0 : Fin cfg0.N := ⟨0, by decide⟩

/-- Every block sits at the origin. -/
theorem idx : ∀ t : Fin cfg0.N, win0_0.index t = ![0, 0, 0] ∧ win0_1.index t = ![0, 0] ∧ win0_2.index t = ![0, 0, 0]
    ∧ win0_3.index t = ![0, 0] ∧ win0_4.index t = ![0, 0] :=
  (by decide +kernel : ∀ t : Fin grid0.N, _)

/-- Each input block is its whole argument. -/
theorem iblk0 : Gen.iblk m c 0 t0 = m ((c.tc : Thread nD τ).loc main_arg0) := by blk_ext! [Gen.iblk, Gen.V, idx t0]
/-- Input 1 is read whole. -/
theorem iblk1 : Gen.iblk m c 1 t0 = m ((c.tc : Thread nD τ).loc main_arg1) := by blk_ext! [Gen.iblk, Gen.V, idx t0]
/-- Input 2 is read whole. -/
theorem iblk2 : Gen.iblk m c 2 t0 = m ((c.tc : Thread nD τ).loc main_arg2) := by blk_ext! [Gen.iblk, Gen.V, idx t0]
/-- Input 3 is read whole. -/
theorem iblk3 : Gen.iblk m c 3 t0 = m ((c.tc : Thread nD τ).loc main_arg3) := by blk_ext! [Gen.iblk, Gen.V, idx t0]
/-- Input 4 is read whole. -/
theorem iblk4 : Gen.iblk m c 4 t0 = m ((c.tc : Thread nD τ).loc main_arg4) := by blk_ext! [Gen.iblk, Gen.V, idx t0]

/-- The scaled activations. -/
theorem xs_eq : Value.reg_main_v0_0 m c
    = Gen.k0_pay1 (F := Ideal) (m ((c.tc : Thread nD τ).loc main_arg0)) (m ((c.tc : Thread nD τ).loc main_arg1)) := by
  refine (Gen.dats m 0 c).arrAt_eq_of_after_last 5 t0 (by decide +kernel) _ fun j => ?_
  blk_simp
  rw [Gen.after0_5]
  frame_out
  rw [iblk0, iblk1]

/-- The scaled output gradients. -/
theorem ds_eq : Value.reg_main_v0_1 m c
    = Gen.k0_pay2 (F := Ideal) (m ((c.tc : Thread nD τ).loc main_arg2)) (m ((c.tc : Thread nD τ).loc main_arg3)) := by
  refine (Gen.dats m 0 c).arrAt_eq_of_after_last 6 t0 (by decide +kernel) _ fun j => ?_
  blk_simp
  rw [Gen.after0_6]
  frame_out
  rw [iblk2, iblk3]

/-- The weights, unscaled. -/
theorem w_eq : Value.reg_main_v0_2 m c = Gen.k0_pay3 (F := Ideal) (m ((c.tc : Thread nD τ).loc main_arg4)) := by
  refine (Gen.dats m 0 c).arrAt_eq_of_after_last 7 t0 (by decide +kernel) _ fun j => ?_
  blk_simp
  rw [Gen.after0_7]
  frame_out
  rw [iblk4]

end Arrays

/-! ### The host lines after it, at an element -/

section Host

variable (x5 : Vec Ideal S14336 .f32) (x6 : Vec Ideal S4096x1792 .i8) (r0 : FVec Ideal S8x2048x4096 .bf16)
  (r1 : FVec Ideal S8x2048x14336 .bf16) (r2 : FVec Ideal S4096x14336 .f32)

/-- The unpacked mask at a weight. -/
theorem v13_apply (i : Fin 4096) (j : Fin 14336) :
    Read.val_main_v13 (F := Ideal) x6 (ix2 i j) = Scores.bit (x6 (ix2 i ⟨j.val / 8, by omega⟩)) (j.val % 8) := by
  pointwise [Read.val_main_v13, Read.val_main_v12, Read.val_main_v11, Read.val_main_v10, Read.val_main_v9,
    Read.val_main_v8, Read.val_main_v7, Read.val_main_v6, Read.val_main_v5, Read.val_main_v4, Read.val_main_v3,
    Read.val_main_v2, Read.val_main_c, Read.val_main_c_0]
  exact Scores.bit_of_shift .host _ ⟨j.val % 8, Nat.mod_lt _ (by decide)⟩

/-- The gradient at a weight: the sum over all tokens. -/
theorem v1_apply (i : Fin 4096) (j : Fin 14336) :
    Read.val_main_v1 (F := Ideal) r0 r1 (ix2 i j) = ∑ a : Fin 8, ∑ s : Fin 2048, r0 (ix3 a s i) * r1 (ix3 a s j) := by
  pointwise [Read.val_main_v1, dot_S8x2048x4096_S8x2048x14336_S4096x14336_01_01_2_2_n_n]

/-- The growth score at a weight. -/
theorem v19_apply (i : Fin 4096) (j : Fin 14336) :
    Read.val_main_v19 (F := Ideal) x6 r0 r1 (ix2 i j)
      = Scalar.select (Read.val_main_v13 (F := Ideal) x6 (ix2 i j)) 0
          (max (Read.val_main_v1 (F := Ideal) r0 r1 (ix2 i j)) (-Read.val_main_v1 (F := Ideal) r0 r1 (ix2 i j))) := by
  show Scalar.select _ (Ideal.ofBits .f32 0x00000000#32) _ = _
  rw [Ideal.ofBits_zero_f32]
  rfl

/-- The row sums over a block column. -/
theorem v21_apply (i : Fin 4096) (c : Fin 448) :
    Read.val_main_v21 (F := Ideal) x6 r0 r1 (ix2 i c)
      = ∑ q : Fin 32, Read.val_main_v19 (F := Ideal) x6 r0 r1 (ix2 i (Scores.col c q)) := by
  pointwise [Read.val_main_v21, Read.val_main_v20, Read.val_main_cst_1]
  rfl

/-- The growth scores by blocks. -/
theorem v24_apply (b : Fin 128) (r : Fin 32) (c : Fin 448) (q : Fin 32) :
    Read.val_main_v24 (F := Ideal) x6 r0 r1 (ix4 b r c q)
      = Read.val_main_v19 (F := Ideal) x6 r0 r1 (ix2 (Scores.row b r) (Scores.col c q)) := by
  pointwise [Read.val_main_v24]
  rfl

/-- The maximum over a block. -/
theorem v25_apply (b : Fin 128) (c : Fin 448) :
    Read.val_main_v25 (F := Ideal) x6 r0 r1 (ix2 b c)
      = Finset.univ.fold max ⊥ fun p : Fin 32 × Fin 32 =>
          Read.val_main_v19 (F := Ideal) x6 r0 r1 (ix2 (Scores.row b p.1) (Scores.col c p.2)) := by
  refine (Scores.reduce13 _ _ _ _ _ b c).trans ?_
  have hb : Read.val_main_cst_2 (F := Ideal) (Shape.Idx.first Gen.h_S_) = (⊥ : EReal) := Scores.ofBits_neg_inf
  rw [hb]
  exact Finset.fold_congr fun p _ => v24_apply x6 r0 r1 b p.1 c p.2

/-- The weight size. -/
theorem v17_apply (i : Fin 4096) (j : Fin 14336) :
    Read.val_main_v17 (F := Ideal) x5 r2 (ix2 i j) = max (r2 (ix2 i j)) (-r2 (ix2 i j)) * x5 (ix1 j) := by
  pointwise [Read.val_main_v17, Read.val_main_v16, Read.val_main_v15, Read.val_main_v14]
  rfl

/-- The mask by blocks. -/
theorem v22_apply (b : Fin 128) (r : Fin 32) (c : Fin 448) (q : Fin 32) :
    Read.val_main_v22 (F := Ideal) x6 (ix4 b r c q)
      = Read.val_main_v13 (F := Ideal) x6 (ix2 (Scores.row b r) (Scores.col c q)) := by
  pointwise [Read.val_main_v22]
  rfl

/-- The weight sizes by blocks. -/
theorem v23_apply (b : Fin 128) (r : Fin 32) (c : Fin 448) (q : Fin 32) :
    Read.val_main_v23 (F := Ideal) x5 r2 (ix4 b r c q)
      = Read.val_main_v17 (F := Ideal) x5 r2 (ix2 (Scores.row b r) (Scores.col c q)) := by
  pointwise [Read.val_main_v23]
  rfl

/-- The kept weight sizes by blocks, infinite where the mask drops the weight. -/
theorem v26_apply (b : Fin 128) (r : Fin 32) (c : Fin 448) (q : Fin 32) :
    Read.val_main_v26 (F := Ideal) x5 x6 r2 (ix4 b r c q)
      = Scalar.select (Read.val_main_v13 (F := Ideal) x6 (ix2 (Scores.row b r) (Scores.col c q)))
          (Read.val_main_v17 (F := Ideal) x5 r2 (ix2 (Scores.row b r) (Scores.col c q))) ⊤ := by
  rw [Read.val_main_v26_apply, v22_apply, v23_apply]
  exact congrArg _ Scores.ofBits_inf

/-- The kept weight sizes by blocks, zero where the mask drops the weight. -/
theorem v30_apply (b : Fin 128) (r : Fin 32) (c : Fin 448) (q : Fin 32) :
    Read.val_main_v30 (F := Ideal) x5 x6 r2 (ix4 b r c q)
      = Scalar.select (Read.val_main_v13 (F := Ideal) x6 (ix2 (Scores.row b r) (Scores.col c q)))
          (Read.val_main_v17 (F := Ideal) x5 r2 (ix2 (Scores.row b r) (Scores.col c q))) 0 := by
  rw [Read.val_main_v30_apply, v22_apply, v23_apply]
  exact congrArg _ Ideal.ofBits_zero_f32

/-- The minimum over a block. -/
theorem v27_apply (b : Fin 128) (c : Fin 448) :
    Read.val_main_v27 (F := Ideal) x5 x6 r2 (ix2 b c)
      = Finset.univ.fold min ⊤ fun p : Fin 32 × Fin 32 =>
          Scalar.select (Read.val_main_v13 (F := Ideal) x6 (ix2 (Scores.row b p.1) (Scores.col c p.2)))
            (Read.val_main_v17 (F := Ideal) x5 r2 (ix2 (Scores.row b p.1) (Scores.col c p.2))) ⊤ := by
  refine (Scores.reduce13 _ _ _ _ _ b c).trans ?_
  have hb : Read.val_main_cst_4 (F := Ideal) (Shape.Idx.first Gen.h_S_) = (⊤ : EReal) := Scores.ofBits_inf
  rw [hb]
  exact Finset.fold_congr fun p _ => v26_apply x5 x6 r2 b p.1 c p.2

/-- Replacing an infinite value by zero, for any value `v`. -/
theorem isinf_select (v : EReal) :
    Scalar.select (FloatOps.cmpf (F := Ideal) (φ := .f32) .oeq (max v (-v)) (Ideal.ofBits .f32 0x7F800000#32)) (Ideal.ofBits .f32 0x00000000#32) v
      = if max v (-v) = ⊤ then 0 else v := by
  rw [Scores.ofBits_inf, Ideal.ofBits_zero_f32]
  by_cases h : max v (-v) = ⊤
  · rw [if_pos h, h]
    simp [Scalar.select, FloatOps.cmpf, Ideal.cmp]
  · rw [if_neg h]
    simp [Scalar.select, FloatOps.cmpf, Ideal.cmp, h]

/-- The minimum over a block, an infinite one replaced by zero. -/
theorem v29_apply (b : Fin 128) (c : Fin 448) :
    Read.val_main_v29 (F := Ideal) x5 x6 r2 (ix2 b c)
      = if max (Read.val_main_v27 (F := Ideal) x5 x6 r2 (ix2 b c)) (-Read.val_main_v27 (F := Ideal) x5 x6 r2 (ix2 b c)) = ⊤
        then 0 else Read.val_main_v27 (F := Ideal) x5 x6 r2 (ix2 b c) := by
  rw [Read.val_main_v29_apply, Read.val_main_v28_apply, Read.val_main_call2_v0_apply]
  exact isinf_select _

/-- The sum over a block. -/
theorem v31_apply (b : Fin 128) (c : Fin 448) :
    Read.val_main_v31 (F := Ideal) x5 x6 r2 (ix2 b c)
      = ∑ r : Fin 32, ∑ q : Fin 32,
          Scalar.select (Read.val_main_v13 (F := Ideal) x6 (ix2 (Scores.row b r) (Scores.col c q)))
            (Read.val_main_v17 (F := Ideal) x5 r2 (ix2 (Scores.row b r) (Scores.col c q))) 0 := by
  refine (Scores.reduceAdd13 _ _ _ b c).trans ?_
  have hb : Read.val_main_cst_7 (F := Ideal) (Shape.Idx.first Gen.h_S_) = (0 : EReal) := Ideal.ofBits_zero_f32
  rw [hb, zero_add]
  exact Finset.sum_congr rfl fun r _ => Finset.sum_congr rfl fun q _ => v30_apply x5 x6 r2 b r c q

end Host

/-! ### The four results over the arguments -/

section Results

variable (m : (ℓ : Loc nD τ sig) → Buf (Elt Ideal) ℓ) (c : Dev nD)

/-- The unpacked mask over the arguments. -/
theorem on_eq (i : Fin 4096) (j : Fin 14336) :
    Read.val_main_v13 (F := Ideal) (m ((c.tc : Thread nD τ).loc main_arg6)) (ix2 i j) = (args m c).on i j :=
  v13_apply _ i j

/-- The growth scores over the arguments. -/
theorem grow_eq (i : Fin 4096) (j : Fin 14336) :
    Read.val_main_v19 (F := Ideal) (m ((c.tc : Thread nD τ).loc main_arg6)) (Value.reg_main_v0_0 m c)
      (Value.reg_main_v0_1 m c) (ix2 i j) = (args m c).grow i j := by
  rw [v19_apply, on_eq, v1_apply, xs_eq, ds_eq]
  simp only [pay1_apply, pay2_apply]
  rfl

/-- The weight sizes over the arguments. -/
theorem size_eq (i : Fin 4096) (j : Fin 14336) :
    Read.val_main_v17 (F := Ideal) (m ((c.tc : Thread nD τ).loc main_arg5)) (Value.reg_main_v0_2 m c) (ix2 i j)
      = (args m c).size i j := by
  rw [v17_apply, w_eq]
  rfl

/-- First result. -/
theorem growMax_eq (b : Fin 128) (k : Fin 448) :
    Read.val_main_v25 (F := Ideal) (m ((c.tc : Thread nD τ).loc main_arg6)) (Value.reg_main_v0_0 m c)
      (Value.reg_main_v0_1 m c) (ix2 b k) = (args m c).growMax b k := by
  rw [v25_apply]
  simp only [grow_eq]
  rfl

/-- Second result. -/
theorem growSum_eq (i : Fin 4096) (k : Fin 448) :
    Read.val_main_v21 (F := Ideal) (m ((c.tc : Thread nD τ).loc main_arg6)) (Value.reg_main_v0_0 m c)
      (Value.reg_main_v0_1 m c) (ix2 i k) = (args m c).growSum i k := by
  rw [v21_apply]
  simp only [grow_eq]
  rfl

/-- Third result. -/
theorem dropMin_eq (b : Fin 128) (k : Fin 448) :
    Read.val_main_v29 (F := Ideal) (m ((c.tc : Thread nD τ).loc main_arg5)) (m ((c.tc : Thread nD τ).loc main_arg6))
      (Value.reg_main_v0_2 m c) (ix2 b k) = (args m c).dropMin b k := by
  rw [v29_apply, v27_apply]
  simp only [on_eq, size_eq]
  rfl

/-- Fourth result. -/
theorem dropSum_eq (b : Fin 128) (k : Fin 448) :
    Read.val_main_v31 (F := Ideal) (m ((c.tc : Thread nD τ).loc main_arg5)) (m ((c.tc : Thread nD τ).loc main_arg6))
      (Value.reg_main_v0_2 m c) (ix2 b k) = (args m c).dropSum b k := by
  rw [v31_apply]
  simp only [on_eq, size_eq]
  rfl

end Results

end Cert.ReferenceIdeal.Hand
-- ==== Proof.lean ====
/-
  The proof of `Cert.Claim`, assembled from the modules under `Proof/`: each program's run ends with its arguments as
  launched and every semaphore counter at zero, the idealization rewrote nothing, and over the extended reals the kernel and
  the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Results
public import proofs.«01_k».proof.Proof.ReferenceIdeal.Values
public import Idealize.ShloMosaic.Adequacy
public import Idealize.ShloMosaic.Init

@[expose] public section

noncomputable section

namespace Cert.Proof

open Idealize.ShloMosaic Idealize.SL.Sem

/-- The kernel's frame: it runs, its arguments end as launched and every semaphore counter at zero. -/
theorem frame_kernel : Cert.quiescent_Kernel (hKernel := Cert.Kernel.Gen.facts) := fun m ρ _ => by
  refine (θ_run _ _ _).mono (fun r h => ⟨fun c => ?_, h.2⟩) (Cert.Kernel.Hand.run_values m ρ)
  obtain ⟨-, -, -, -, h0, h1, h2, h3, h4, h5, h6⟩ := h.1 c
  exact ⟨h0, h1, h2, h3, h4, h5, h6⟩

/-- The same of the kernel read over the extended reals. -/
theorem frame_kernelIdeal : Cert.quiescent_KernelIdeal (hKernelIdeal := Cert.KernelIdeal.Gen.facts) := fun m ρ _ => by
  refine (θ_run _ _ _).mono (fun r h => ⟨fun c => ?_, h.2⟩) (Cert.KernelIdeal.Hand.run_values m ρ)
  obtain ⟨-, -, -, -, h0, h1, h2, h3, h4, h5, h6⟩ := h.1 c
  exact ⟨h0, h1, h2, h3, h4, h5, h6⟩

/-- The same of the reference. -/
theorem frame_referenceIdeal : Cert.quiescent_ReferenceIdeal (hReferenceIdeal := Cert.ReferenceIdeal.Gen.facts) := fun m ρ _ =>
  Cert.ReferenceIdeal.Gen.frame m ρ

/-- Equal arguments, read by coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.args m' c = Cert.KernelIdeal.Hand.args m c := by
  obtain ⟨h0, h1, h2, h3, h4, h5, h6⟩ := h
  apply Cert.Scores.Args.ext
  · funext a s i; exact congrFun h0 (ix3 a s i)
  · funext a s; exact congrFun h1 (ix2 a s)
  · funext a s j; exact congrFun h2 (ix3 a s j)
  · funext a s; exact congrFun h3 (ix2 a s)
  · funext i j; exact congrFun h4 (ix2 i j)
  · funext j; exact congrFun h5 (ix1 j)
  · funext i k; exact congrFun h6 (ix2 i k)

/-- Two arrays of rank 2 that agree at all coordinates with equal functions are equal. -/
theorem ext2 {n k : Nat} {f g : (⟨2, ![n, k]⟩ : Shape).Idx → EReal} (φ ψ : Fin n → Fin k → EReal)
    (hf : ∀ i j, f (ix2 i j) = φ i j) (hg : ∀ i j, g (ix2 i j) = ψ i j) (h : φ = ψ) : f = g := by
  funext x
  rw [eq_ix2 x]
  exact (hf (x 0) (x 1)).trans ((congrFun (congrFun h (x 0)) (x 1)).trans (hg (x 0) (x 1)).symm)

/-- From memories agreeing on the arguments the kernel and the reference end with the same four results: the growth maxima,
    the growth row sums, the drop minima and the drop sums. -/
theorem algebraic : Cert.algebraic_KernelIdeal_ReferenceIdeal (hKernelIdeal := Cert.KernelIdeal.Gen.facts)
    (hReferenceIdeal := Cert.ReferenceIdeal.Gen.facts) := fun m g m' g' _ hagree => by
  refine ⟨fun c => Cert.KernelIdeal.Gen.V9 m (Cert.KernelIdeal.Hand.outsB m) c (Proc.devRef .tc Cert.KernelIdeal.main_v26),
    fun c => Cert.KernelIdeal.Gen.V9 m (Cert.KernelIdeal.Hand.outsB m) c (Proc.devRef .tc Cert.KernelIdeal.main_v28),
    fun c => Cert.KernelIdeal.Gen.V9 m (Cert.KernelIdeal.Hand.outsB m) c (Proc.devRef .tc Cert.KernelIdeal.main_v30),
    fun c => Cert.KernelIdeal.Gen.V9 m (Cert.KernelIdeal.Hand.outsB m) c (Proc.devRef .tc Cert.KernelIdeal.main_v32), ?_, ?_⟩
  · exact (θ_run _ _ _).mono (fun r h => h.1) (Cert.KernelIdeal.Hand.run_values m g)
  · refine (θ_run _ _ _).mono (fun r h c => ?_) (Cert.ReferenceIdeal.Value.run m' g')
    have hA := args_eq m m' c (hagree c)
    obtain ⟨h0, h1, h2, h3, hargs⟩ := h c
    refine ⟨h0.trans ?_, h1.trans ?_, h2.trans ?_, h3.trans ?_, hargs⟩
    · exact ext2 _ _ (Cert.ReferenceIdeal.Hand.growMax_eq m' c) (Cert.KernelIdeal.Hand.growMax_eq m c) (by rw [hA])
    · exact ext2 _ _ (Cert.ReferenceIdeal.Hand.growSum_eq m' c) (Cert.KernelIdeal.Hand.growSum_eq m c) (by rw [hA])
    · exact ext2 _ _ (Cert.ReferenceIdeal.Hand.dropMin_eq m' c) (Cert.KernelIdeal.Hand.dropMin_eq m c) (by rw [hA])
    · exact ext2 _ _ (Cert.ReferenceIdeal.Hand.dropSum_eq m' c) (Cert.KernelIdeal.Hand.dropSum_eq m c) (by rw [hA])

/-- The certificate: the five claims together. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
